-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S16384x2 : Shape := ⟨2, ![16384, 2]⟩
abbrev S16x262144x2 : Shape := ⟨3, ![16, 262144, 2]⟩
abbrev S64x32 : Shape := ⟨2, ![64, 32]⟩
abbrev S64 : Shape := ⟨1, ![64]⟩
abbrev S64x64 : Shape := ⟨2, ![64, 64]⟩
abbrev S3x64 : Shape := ⟨2, ![3, 64]⟩
abbrev S3 : Shape := ⟨1, ![3]⟩
abbrev S_ : Shape := ⟨0, ![]⟩
abbrev S1x3x2 : Shape := ⟨3, ![1, 3, 2]⟩
abbrev S3x2 : Shape := ⟨2, ![3, 2]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  slices_S16x262144x2_S1x3x2_0_1_0 : S16x262144x2.Slices ![0, 1, 0] S1x3x2
  shapeCasts_S1x3x2_S3x2 : S1x3x2.ShapeCasts S3x2
  bcast_S_S3x2 : S_.BroadcastsInDim S3x2 (![] : Fin 0 → Fin S3x2.rank)
  reducesTo_S3x2_S_d0_1 : S3x2.ReducesTo [0, 1] S_

variable [Facts]

def fn {F : FTy → Type} [FloatOps F] (main_arg0 : FVec F S16384x2 .f32) (main_arg1 : FVec F S16x262144x2 .f32) (main_arg2 : FVec F S64x32 .f32) (main_arg3 : FVec F S64 .f32) (main_arg4 : FVec F S64x64 .f32) (main_arg5 : FVec F S64 .f32) (main_arg6 : FVec F S64x64 .f32) (main_arg7 : FVec F S64 .f32) (main_arg8 : FVec F S3x64 .f32) (main_arg9 : FVec F S3 .f32) : IVec S_ 1 :=
  let main_cst : FVec F S_ .f32 := constant S_ .f32 0x00000000#32
  let main_v0 : FVec F S16384x2 .f32 := broadcastInDim S16384x2 ![] bcast_S_S16384x2 main_cst
  let main_v1 : IVec S16384x2 1 := cmpf .oge main_arg0 main_v0
  let main_cst_0 : FVec F S_ .f32 := constant S_ .f32 0x4C000000#32
  let main_v2 : FVec F S16384x2 .f32 := broadcastInDim S16384x2 ![] bcast_S_S16384x2 main_cst_0
  let main_v3 : IVec S16384x2 1 := cmpf .olt main_arg0 main_v2
  let main_v4 : IVec S16384x2 1 := andi main_v1 main_v3
  let main_c : IVec S_ 1 := constantI S_ 1 1#1
  let main_v5 : IVec S_ 1 := (fun x v => Host.reduce IntOp.andi x v reducesTo_S16384x2_S_d0_1 h_S_) main_v4 main_c
  let main_v6 : FVec F S1x3x2 .f32 := (extractStridedSlice S1x3x2 ![0, 1, 0] · slices_S16x262144x2_S1x3x2_0_1_0) main_arg1
  let main_v7 : FVec F S3x2 .f32 := shapeCast S3x2 main_v6 shapeCasts_S1x3x2_S3x2
  let main_cst_1 : FVec F S_ .f32 := constant S_ .f32 0xFF800000#32
  let main_v8 : FVec F S3x2 .f32 := broadcastInDim S3x2 ![] bcast_S_S3x2 main_cst_1
  let main_v9 : IVec S3x2 1 := cmpf .ogt main_v7 main_v8
  let main_cst_2 : FVec F S_ .f32 := constant S_ .f32 0x7F800000#32
  let main_v10 : FVec F S3x2 .f32 := broadcastInDim S3x2 ![] bcast_S_S3x2 main_cst_2
  let main_v11 : IVec S3x2 1 := cmpf .olt main_v7 main_v10
  let main_v12 : IVec S3x2 1 := andi main_v9 main_v11
  let main_c_3 : IVec S_ 1 := constantI S_ 1 1#1
  let main_v13 : IVec S_ 1 := (fun x v => Host.reduce IntOp.andi x v reducesTo_S3x2_S_d0_1 h_S_) main_v12 main_c_3
  let main_v14 : IVec S_ 1 := andi main_v5 main_v13
  main_v14
-- ==== Kernel.lean ====
abbrev S16384x2 : Shape := ⟨2, ![16384, 2]⟩
abbrev S16x262144x2 : Shape := ⟨3, ![16, 262144, 2]⟩
abbrev S64x32 : Shape := ⟨2, ![64, 32]⟩
abbrev S64 : Shape := ⟨1, ![64]⟩
abbrev S64x64 : Shape := ⟨2, ![64, 64]⟩
abbrev S3x64 : Shape := ⟨2, ![3, 64]⟩
abbrev S3 : Shape := ⟨1, ![3]⟩
abbrev S1x128 : Shape := ⟨2, ![1, 128]⟩
abbrev S8x256 : Shape := ⟨2, ![8, 256]⟩
abbrev S2x4x2 : Shape := ⟨3, ![2, 4, 2]⟩
abbrev S1x64 : Shape := ⟨2, ![1, 64]⟩
abbrev S1x3 : Shape := ⟨2, ![1, 3]⟩
abbrev S16384x3 : Shape := ⟨2, ![16384, 3]⟩
abbrev S2x2048x2 : Shape := ⟨3, ![2, 2048, 2]⟩
abbrev S2x2048x3 : Shape := ⟨3, ![2, 2048, 3]⟩
abbrev S256x128 : Shape := ⟨2, ![256, 128]⟩
abbrev S256x256 : Shape := ⟨2, ![256, 256]⟩
abbrev S12x256 : Shape := ⟨2, ![12, 256]⟩
abbrev S2 : Shape := ⟨1, ![2]⟩
abbrev S1 : Shape := ⟨1, ![1]⟩
abbrev S_ : Shape := ⟨0, ![]⟩
abbrev S1x2048x2 : Shape := ⟨3, ![1, 2048, 2]⟩
abbrev S2048x2 : Shape := ⟨2, ![2048, 2]⟩
abbrev S2048x3 : Shape := ⟨2, ![2048, 3]⟩
abbrev S1x2048x3 : Shape := ⟨3, ![1, 2048, 3]⟩
abbrev S512x2 : Shape := ⟨2, ![512, 2]⟩
abbrev S512x8 : Shape := ⟨2, ![512, 8]⟩
abbrev S512x256 : Shape := ⟨2, ![512, 256]⟩
abbrev S512x128 : Shape := ⟨2, ![512, 128]⟩
abbrev S1x1x1 : Shape := ⟨3, ![1, 1, 1]⟩
abbrev S1x256 : Shape := ⟨2, ![1, 256]⟩
abbrev S512x12 : Shape := ⟨2, ![512, 12]⟩
abbrev S1x12 : Shape := ⟨2, ![1, 12]⟩
abbrev S512x3 : Shape := ⟨2, ![512, 3]⟩

abbrev nBuf : Space → Nat
  | .hbm => 18
  | .vmem => 16
  | .smem => 1
  | _ => 0

abbrev bufTy : (tb : Table) → Fin (tcTables nBuf tb) → BufTy
  | .hbm, ⟨0, _⟩ => ⟨S16384x2, .f32⟩
  | .hbm, ⟨1, _⟩ => ⟨S16x262144x2, .f32⟩
  | .hbm, ⟨2, _⟩ => ⟨S64x32, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3x64, .f32⟩
  | .hbm, ⟨9, _⟩ => ⟨S3, .f32⟩
  | .hbm, ⟨10, _⟩ => ⟨S1x128, .f32⟩
  | .hbm, ⟨11, _⟩ => ⟨S8x256, .f32⟩
  | .hbm, ⟨12, _⟩ => ⟨S2x4x2, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x3, .f32⟩
  | .hbm, ⟨17, _⟩ => ⟨S16384x3, .f32⟩
  | .local _ .vmem, ⟨0, _⟩ => ⟨S1x128, .f32⟩
  | .local _ .vmem, ⟨1, _⟩ => ⟨S8x256, .f32⟩
  | .local _ .vmem, ⟨2, _⟩ => ⟨S64x32, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3x64, .f32⟩
  | .local _ .vmem, ⟨9, _⟩ => ⟨S1x3, .f32⟩
  | .local _ .vmem, ⟨10, _⟩ => ⟨S2x2048x2, .f32⟩
  | .local _ .vmem, ⟨11, _⟩ => ⟨S2x2048x3, .f32⟩
  | .local _ .vmem, ⟨12, _⟩ => ⟨S256x128, .f32⟩
  | .local _ .vmem, ⟨13, _⟩ => ⟨S256x256, .f32⟩
  | .local _ .vmem, ⟨14, _⟩ => ⟨S256x256, .f32⟩
  | .local _ .vmem, ⟨15, _⟩ => ⟨S12x256, .f32⟩
  | .local _ .smem, ⟨0, _⟩ => ⟨S2x4x2, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 : Fin 2 → Nat :=
  let c0_i32_127 : BitVec 32 := 0#32
  let c2048_i32_128 : BitVec 32 := 2048#32
  let v221 : BitVec 32 := Scalar.muli c0_i32_127 c2048_i32_128
  let c0_i32_133 : BitVec 32 := 0#32
  ![v221.toNat, 0]
def k0_cond2 (i : grid0.Coords) : BitVec 1 :=
  let arg0 : BitVec 32 := BitVec.ofNat 32 (i 0).val
  let c1_i32 : BitVec 32 := 1#32
  let v4 : BitVec 32 := Scalar.addi arg0 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_off2 (i : grid0.Coords) : Fin 1 → Nat :=
  let c1_i32_128 : BitVec 32 := 1#32
  let arg0 : BitVec 32 := BitVec.ofNat 32 (i 0).val
  let c2_i32 : BitVec 32 := 2#32
  let v0 : BitVec 32 := Scalar.remsi arg0 c2_i32
  let v222 : BitVec 32 := Scalar.subi c1_i32_128 v0
  ![v222.toNat]
def k0_off3 (i : grid0.Coords) : Fin 3 → Nat :=
  let c1_i32_128 : BitVec 32 := 1#32
  let arg0 : BitVec 32 := BitVec.ofNat 32 (i 0).val
  let c2_i32 : BitVec 32 := 2#32
  let v0 : BitVec 32 := Scalar.remsi arg0 c2_i32
  let v222 : BitVec 32 := Scalar.subi c1_i32_128 v0
  let c0_i32_130 : BitVec 32 := 0#32
  let c0_i32_131 : BitVec 32 := 0#32
  ![v222.toNat, 0, 0]
def k0_off4 (i : grid0.Coords) : Fin 2 → Nat :=
  let arg0 : BitVec 32 := BitVec.ofNat 32 (i 0).val
  let c1_i32_127 : BitVec 32 := 1#32
  let v221 : BitVec 32 := Scalar.addi arg0 c1_i32_127
  let c2048_i32_129 : BitVec 32 := 2048#32
  let v223 : BitVec 32 := Scalar.muli v221 c2048_i32_129
  let c0_i32_132 : BitVec 32 := 0#32
  ![v223.toNat, 0]
def k0_off5 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off6 (i : grid0.Coords) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c0_i32_3 : BitVec 32 := 0#32
  ![v0.toNat, 0, 0]
def k0_off7 (i : grid0.Coords) : Fin 2 → Nat :=
  let arg0 : BitVec 32 := BitVec.ofNat 32 (i 0).val
  let c2048_i32 : BitVec 32 := 2048#32
  let v8 : BitVec 32 := Scalar.muli arg0 c2048_i32
  let c0_i32_4 : BitVec 32 := 0#32
  ![v8.toNat, 0]
def k0_cond3 (i : grid0.Coords) : BitVec 1 :=
  let arg0 : BitVec 32 := BitVec.ofNat 32 (i 0).val
  let c2_i32_5 : BitVec 32 := 2#32
  let v14 : BitVec 1 := Scalar.cmpi .sge arg0 c2_i32_5
  let v15 : BitVec 32 := Scalar.extui v14
  let c0_i32_6 : BitVec 32 := 0#32
  let v16 : BitVec 1 := Scalar.cmpi .ne v15 c0_i32_6
  v16

def k0_off8 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off9 (i : grid0.Coords) : Fin 2 → Nat :=
  let arg0 : BitVec 32 := BitVec.ofNat 32 (i 0).val
  let c2_i32_127 : BitVec 32 := 2#32
  let v221 : BitVec 32 := Scalar.subi arg0 c2_i32_127
  let c2048_i32_128 : BitVec 32 := 2048#32
  let v222 : BitVec 32 := Scalar.muli v221 c2048_i32_128
  let c0_i32_129 : BitVec 32 := 0#32
  ![v222.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_130 : BitVec 32 := 0#32
  let c0_i32_131 : BitVec 32 := 0#32
  ![v0.toNat, 0, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_106 : BitVec 32 := 0#32
  let c0_i32_107 : BitVec 32 := 0#32
  ![v0.toNat, 0, 0]
def k0_off12 (i : grid0.Coords) : Fin 2 → Nat :=
  let arg0 : BitVec 32 := BitVec.ofNat 32 (i 0).val
  let c2048_i32_122 : BitVec 32 := 2048#32
  let v212 : BitVec 32 := Scalar.muli arg0 c2048_i32_122
  let c0_i32_123 : BitVec 32 := 0#32
  ![v212.toNat, 0]
def k0_cond4 (i : grid0.Coords) : BitVec 1 :=
  let arg0 : BitVec 32 := BitVec.ofNat 32 (i 0).val
  let c7_i32 : BitVec 32 := 7#32
  let v218 : BitVec 1 := Scalar.cmpi .eq arg0 c7_i32
  let v219 : BitVec 32 := Scalar.extui v218
  let c0_i32_126 : BitVec 32 := 0#32
  let v220 : BitVec 1 := Scalar.cmpi .ne v219 c0_i32_126
  v220

def k0_off13 (i : grid0.Coords) : Fin 1 → Nat :=
  let c1_i32_128 : BitVec 32 := 1#32
  let arg0 : BitVec 32 := BitVec.ofNat 32 (i 0).val
  let c2_i32 : BitVec 32 := 2#32
  let v0 : BitVec 32 := Scalar.remsi arg0 c2_i32
  let v222 : BitVec 32 := Scalar.subi c1_i32_128 v0
  ![v222.toNat]
def k0_off14 (i : grid0.Coords) : Fin 2 → Nat :=
  let arg0 : BitVec 32 := BitVec.ofNat 32 (i 0).val
  let c1_i32_127 : BitVec 32 := 1#32
  let v221 : BitVec 32 := Scalar.subi arg0 c1_i32_127
  let c2048_i32_129 : BitVec 32 := 2048#32
  let v223 : BitVec 32 := Scalar.muli v221 c2048_i32_129
  let c0_i32_130 : BitVec 32 := 0#32
  ![v223.toNat, 0]
def k0_off15 (i : grid0.Coords) : Fin 3 → Nat :=
  let c1_i32_128 : BitVec 32 := 1#32
  let arg0 : BitVec 32 := BitVec.ofNat 32 (i 0).val
  let c2_i32 : BitVec 32 := 2#32
  let v0 : BitVec 32 := Scalar.remsi arg0 c2_i32
  let v222 : BitVec 32 := Scalar.subi c1_i32_128 v0
  let c0_i32_131 : BitVec 32 := 0#32
  let c0_i32_132 : BitVec 32 := 0#32
  ![v222.toNat, 0, 0]
def k0_off16 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off17 (i : grid0.Coords) : Fin 2 → Nat :=
  let arg0 : BitVec 32 := BitVec.ofNat 32 (i 0).val
  let c2048_i32_133 : BitVec 32 := 2048#32
  let v229 : BitVec 32 := Scalar.muli arg0 c2048_i32_133
  let c0_i32_134 : BitVec 32 := 0#32
  ![v229.toNat, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let c0_i32_135 : BitVec 32 := 0#32
  let c0_i32_136 : BitVec 32 := 0#32
  ![v0.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S2x4x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x2 : Shape := ⟨2, ![16384, 2]⟩
abbrev S16x262144x2 : Shape := ⟨3, ![16, 262144, 2]⟩
abbrev S64x32 : Shape := ⟨2, ![64, 32]⟩
abbrev S64 : Shape := ⟨1, ![64]⟩
abbrev S64x64 : Shape := ⟨2, ![64, 64]⟩
abbrev S3x64 : Shape := ⟨2, ![3, 64]⟩
abbrev S3 : Shape := ⟨1, ![3]⟩
abbrev S16 : Shape := ⟨1, ![16]⟩
abbrev S2x4 : Shape := ⟨2, ![2, 4]⟩
abbrev S2 : Shape := ⟨1, ![2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x2x16x1 : Shape := ⟨4, ![16384, 2, 16, 1]⟩
abbrev S1x2x1x4 : Shape := ⟨4, ![1, 2, 1, 4]⟩
abbrev S16384x2x16x4 : Shape := ⟨4, ![16384, 2, 16, 4]⟩
abbrev S1x2x1x1 : Shape := ⟨4, ![1, 2, 1, 1]⟩
abbrev S16384x1x16x4 : Shape := ⟨4, ![16384, 1, 16, 4]⟩
abbrev S16384x16x4 : Shape := ⟨3, ![16384, 16, 4]⟩
abbrev S_ : Shape := ⟨0, ![]⟩
abbrev S4 : Shape := ⟨1, ![4]⟩
abbrev S1x1x4 : Shape := ⟨3, ![1, 1, 4]⟩
abbrev S16384x16x4x1 : Shape := ⟨4, ![16384, 16, 4, 1]⟩
abbrev S16384x16x4x2 : Shape := ⟨4, ![16384, 16, 4, 2]⟩
abbrev S16384x1x16 : Shape := ⟨3, ![16384, 1, 16]⟩
abbrev S16384x16 : Shape := ⟨2, ![16384, 16]⟩
abbrev S16384x16x1 : Shape := ⟨3, ![16384, 16, 1]⟩
abbrev S16384x16x2 : Shape := ⟨3, ![16384, 16, 2]⟩
abbrev S16384x32 : Shape := ⟨2, ![16384, 32]⟩
abbrev S32x64 : Shape := ⟨2, ![32, 64]⟩
abbrev S16384x64 : Shape := ⟨2, ![16384, 64]⟩
abbrev S1x64 : Shape := ⟨2, ![1, 64]⟩
abbrev S64x3 : Shape := ⟨2, ![64, 3]⟩
abbrev S16384x3 : Shape := ⟨2, ![16384, 3]⟩
abbrev S1x3 : Shape := ⟨2, ![1, 3]⟩

abbrev nBuf : Space → Nat
  | .hbm => 149
  | .vmem => 0
  | .smem => 0
  | _ => 0

abbrev hbmTy0_0 (i : Nat) : BufTy := match i % 128 with
  | 0 => ⟨S16384x2, .f32⟩
  | 1 => ⟨S16x262144x2, .f32⟩
  | 2 => ⟨S64x32, .f32⟩
  | 3 => ⟨S64, .f32⟩
  | 4 => ⟨S64x64, .f32⟩
  | 5 => ⟨S64, .f32⟩
  | 6 => ⟨S64x64, .f32⟩
  | 7 => ⟨S64, .f32⟩
  | 8 => ⟨S3x64, .f32⟩
  | 9 => ⟨S3, .f32⟩
  | 10 => ⟨S16, .f32⟩
  | 11 => ⟨S2x4, .f32⟩
  | 12 => ⟨S2, .i32⟩
  | 13 => ⟨S16, .f32⟩
  | 14 => ⟨S16, .i32⟩
  | 15 => ⟨S16384x2x1, .f32⟩
  | 16 => ⟨S1x1x16, .i32⟩
  | 17 => ⟨S1x1x16, .f32⟩
  | 18 => ⟨S16384x2x16, .f32⟩
  | 19 => ⟨S16384x2x16, .f32⟩
  | 20 => ⟨S16384x2x16, .f32⟩
  | 21 => ⟨S16384x2x16, .f32⟩
  | 22 => ⟨S16384x2x16x1, .f32⟩
  | 23 => ⟨S1x2x1x4, .f32⟩
  | 24 => ⟨S16384x2x16x4, .f32⟩
  | 25 => ⟨S16384x2x16x4, .f32⟩
  | 26 => ⟨S16384x2x16x4, .f32⟩
  | 27 => ⟨S16384x2x16x4, .i32⟩
  | 28 => ⟨S1x2x1x1, .i32⟩
  | 29 => ⟨S16384x2x16x4, .i32⟩
  | 30 => ⟨S16384x2x16x4, .i32⟩
  | 31 => ⟨S16384x1x16x4, .i32⟩
  | 32 => ⟨S16384x16x4, .i32⟩
  | 33 => ⟨S16384x1x16x4, .i32⟩
  | 34 => ⟨S16384x16x4, .i32⟩
  | 35 => ⟨S16384x16x4, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S16384x16x4, .i32⟩
  | 43 => ⟨S16384x16x4, .i32⟩
  | 44 => ⟨S_, .i32⟩
  | 45 => ⟨S16384x16x4, .i32⟩
  | 46 => ⟨S16384x16x4, .i1⟩
  | 47 => ⟨S_, .i32⟩
  | 48 => ⟨S16384x16x4, .i32⟩
  | 49 => ⟨S16384x16x4, .i1⟩
  | 50 => ⟨S_, .i32⟩
  | 51 => ⟨S_, .i1⟩
  | 52 => ⟨S16384x16x4, .i1⟩
  | 53 => ⟨S16384x16x4, .i1⟩
  | 54 => ⟨S16384x16x4, .i1⟩
  | 55 => ⟨S16384x16x4, .i32⟩
  | 56 => ⟨S16384x16x4, .i32⟩
  | 57 => ⟨S16384x16x4, .i32⟩
  | 58 => ⟨S4, .i32⟩
  | 59 => ⟨S1x1x4, .i32⟩
  | 60 => ⟨S_, .i32⟩
  | 61 => ⟨S16384x16x4, .i32⟩
  | 62 => ⟨S16384x16x4, .i1⟩
  | 63 => ⟨S_, .i32⟩
  | 64 => ⟨S16384x16x4, .i32⟩
  | 65 => ⟨S16384x16x4, .i32⟩
  | 66 => ⟨S16384x16x4, .i32⟩
  | 67 => ⟨S_, .i32⟩
  | 68 => ⟨S1x1x4, .i32⟩
  | 69 => ⟨S1x1x4, .i1⟩
  | 70 => ⟨S_, .i32⟩
  | 71 => ⟨S1x1x4, .i32⟩
  | 72 => ⟨S1x1x4, .i32⟩
  | 73 => ⟨S1x1x4, .i32⟩
  | 74 => ⟨S16384x16x4, .i32⟩
  | 75 => ⟨S16384x16x4x1, .i32⟩
  | 76 => ⟨S16384x16x4x1, .i32⟩
  | 77 => ⟨S16384x16x4x2, .i32⟩
  | 78 => ⟨S16384x16x4x2, .f32⟩
  | 79 => ⟨S16384x2x16, .f32⟩
  | 80 => ⟨S16384x1x16, .f32⟩
  | 81 => ⟨S16384x16, .f32⟩
  | 82 => ⟨S_, .f32⟩
  | 83 => ⟨S16384x16, .f32⟩
  | 84 => ⟨S16384x16, .f32⟩
  | 85 => ⟨S16384x1x16, .f32⟩
  | 86 => ⟨S16384x16, .f32⟩
  | 87 => ⟨S_, .f32⟩
  | 88 => ⟨S16384x16, .f32⟩
  | 89 => ⟨S16384x16, .f32⟩
  | 90 => ⟨S16384x16, .f32⟩
  | 91 => ⟨S16384x16, .f32⟩
  | 92 => ⟨S16384x16, .f32⟩
  | 93 => ⟨S16384x16, .f32⟩
  | 94 => ⟨S16384x16x1, .f32⟩
  | 95 => ⟨S16384x16x1, .f32⟩
  | 96 => ⟨S16384x16x1, .f32⟩
  | 97 => ⟨S16384x16x1, .f32⟩
  | 98 => ⟨S16384x16x4, .f32⟩
  | 99 => ⟨S16384x16x4x1, .f32⟩
  | 100 => ⟨S16384x16x4x2, .f32⟩
  | 101 => ⟨S16384x16x4x2, .f32⟩
  | 102 => ⟨S_, .f32⟩
  | 103 => ⟨S16384x16x2, .f32⟩
  | 104 => ⟨S16384x32, .f32⟩
  | 105 => ⟨S32x64, .f32⟩
  | 106 => ⟨S16384x64, .f32⟩
  | 107 => ⟨S1x64, .f32⟩
  | 108 => ⟨S16384x64, .f32⟩
  | 109 => ⟨S16384x64, .f32⟩
  | 110 => ⟨S_, .f32⟩
  | 111 => ⟨S16384x64, .f32⟩
  | 112 => ⟨S16384x64, .i1⟩
  | 113 => ⟨S_, .f32⟩
  | 114 => ⟨S16384x64, .f32⟩
  | 115 => ⟨S16384x64, .f32⟩
  | 116 => ⟨S16384x64, .f32⟩
  | 117 => ⟨S64x64, .f32⟩
  | 118 => ⟨S16384x64, .f32⟩
  | 119 => ⟨S1x64, .f32⟩
  | 120 => ⟨S16384x64, .f32⟩
  | 121 => ⟨S16384x64, .f32⟩
  | 122 => ⟨S_, .f32⟩
  | 123 => ⟨S16384x64, .f32⟩
  | 124 => ⟨S16384x64, .i1⟩
  | 125 => ⟨S_, .f32⟩
  | 126 => ⟨S16384x64, .f32⟩
  | 127 => ⟨S16384x64, .f32⟩
  | _ => ⟨S16384x2, .f32⟩

abbrev hbmTy0_1 (i : Nat) : BufTy := match i % 128 with
  | 0 => ⟨S16384x64, .f32⟩
  | 1 => ⟨S64x64, .f32⟩
  | 2 => ⟨S16384x64, .f32⟩
  | 3 => ⟨S1x64, .f32⟩
  | 4 => ⟨S16384x64, .f32⟩
  | 5 => ⟨S16384x64, .f32⟩
  | 6 => ⟨S_, .f32⟩
  | 7 => ⟨S16384x64, .f32⟩
  | 8 => ⟨S16384x64, .i1⟩
  | 9 => ⟨S_, .f32⟩
  | 10 => ⟨S16384x64, .f32⟩
  | 11 => ⟨S16384x64, .f32⟩
  | 12 => ⟨S16384x64, .f32⟩
  | 13 => ⟨S64x3, .f32⟩
  | 14 => ⟨S16384x3, .f32⟩
  | 15 => ⟨S1x3, .f32⟩
  | 16 => ⟨S16384x3, .f32⟩
  | 17 => ⟨S16384x3, .f32⟩
  | 18 => ⟨S_, .f32⟩
  | 19 => ⟨S16384x3, .f32⟩
  | 20 => ⟨S16384x3, .f32⟩
  | _ => ⟨S16384x2, .f32⟩

abbrev hbmTy (i : Nat) : BufTy := match i / 128 with
  | 0 => hbmTy0_0 i
  | 1 => hbmTy0_1 i
  | _ => ⟨S16384x2, .f32⟩

abbrev bufTy : (tb : Table) → Fin (tcTables nBuf tb) → BufTy
  | .hbm, ⟨i, _⟩ => hbmTy i
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_2 : Ref sig .tc := ⟨.hbm, 60, rfl⟩
abbrev main_v26 : Ref sig .tc := ⟨.hbm, 61, rfl⟩
abbrev main_v27 : Ref sig .tc := ⟨.hbm, 62, rfl⟩
abbrev main_c_3 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_4 : Ref sig .tc := ⟨.hbm, 67, rfl⟩
abbrev main_v31 : Ref sig .tc := ⟨.hbm, 68, rfl⟩
abbrev main_v32 : Ref sig .tc := ⟨.hbm, 69, rfl⟩
abbrev main_c_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_8 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_9 : Ref sig .tc := ⟨.hbm, 110, rfl⟩
abbrev main_v69 : Ref sig .tc := ⟨.hbm, 111, rfl⟩
abbrev main_v70 : Ref sig .tc := ⟨.hbm, 112, rfl⟩
abbrev main_cst_10 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_11 : Ref sig .tc := ⟨.hbm, 122, rfl⟩
abbrev main_v79 : Ref sig .tc := ⟨.hbm, 123, rfl⟩
abbrev main_v80 : Ref sig .tc := ⟨.hbm, 124, rfl⟩
abbrev main_cst_12 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_13 : Ref sig .tc := ⟨.hbm, 134, rfl⟩
abbrev main_v89 : Ref sig .tc := ⟨.hbm, 135, rfl⟩
abbrev main_v90 : Ref sig .tc := ⟨.hbm, 136, rfl⟩
abbrev main_cst_14 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call4_cst : Ref sig .tc := ⟨.hbm, 146, rfl⟩
abbrev main_call4_v0 : Ref sig .tc := ⟨.hbm, 147, rfl⟩
abbrev main_v99 : Ref sig .tc := ⟨.hbm, 148, rfl⟩

abbrev nD : Nat := 1
abbrev τ : Topo := Topo.v7x

variable {F : FTy → Type} [FloatOps F]
-- ==== Proof.Names.lean ====
/-
  The names of what the kernel's transfers touch.

  The kernel streams `X` (8 blocks of 2048 rows) through a buffer of two slots and its result (8 blocks of 2048 rows)
  through another buffer of two slots, each slot with a semaphore of its own. Here every slice the kernel takes at a grid
  point is rewritten to one of six names: block `b` of `X` (`xblk b`), slot `s` of the input buffer (`xslot s`) and its
  semaphore (`semIn s`), block `b` of the result (`oblk b`), slot `s` of the output buffer (`oslot s`) and its semaphore
  (`semOut s`). The grid point's number is `pt i`.
-/
module

public import proofs.«01_k».proof.Proof.Gen.KernelIdeal.Frame
public import proofs.«01_k».proof.Proof.Gen.KernelIdeal.Skeleton
public import Idealize.ShloMosaic.Lib.Pipeline.Routed
public import Idealize.ShloMosaic.Lib.Ring
public import Idealize.ShloMosaic.Lib.Affine
public import Idealize.ShloMosaic.Lib.Tactic

@[expose] public section

noncomputable section

namespace Cert.Proof.Ring8

open Cert.KernelIdeal Cert.KernelIdeal.Gen
open Idealize.ShloMosaic
open Idealize.ShloMosaic.TcCoe Idealize.ShloMosaic.Tactic

/-- The grid point's number. -/
abbrev pt (i : grid0.Coords) : ℕ := (i 0).val
theorem pt_lt (i : grid0.Coords) : pt i < 8 := (i 0).isLt

/-! ## Blocks, slots and semaphores -/

abbrev xM : Memref sig .tc .hbm S16384x2 .f32 := Memref.whole main_arg0
abbrev oM : Memref sig .tc .hbm S16384x3 .f32 := Memref.whole main_v5
abbrev xB : Memref sig .tc .vmem S2x2048x2 .f32 := Memref.whole cc0_scratch0
abbrev oB : Memref sig .tc .vmem S2x2048x3 .f32 := Memref.whole cc0_scratch1

abbrev rowOff (b : Fin 8) : Fin 2 → Nat := ![2048 * b.val, 0]
theorem rowOff_x (b : Fin 8) : ∀ a, rowOff b a + S2048x2.size a ≤ S16384x2.size a := by
  have := b.isLt; intro a; fin_cases a
  · show 2048 * b.val + 2048 ≤ 16384; omega
  · show 0 + 2 ≤ 2; omega
theorem rowOff_o (b : Fin 8) : ∀ a, rowOff b a + S2048x3.size a ≤ S16384x3.size a := by
  have := b.isLt; intro a; fin_cases a
  · show 2048 * b.val + 2048 ≤ 16384; omega
  · show 0 + 3 ≤ 3; omega
abbrev slotOff (s : Fin 2) : Fin 3 → Nat := ![s.val, 0, 0]
theorem slotOff_x (s : Fin 2) : ∀ a, slotOff s a + S1x2048x2.size a ≤ S2x2048x2.size a := by
  have := s.isLt; intro a; fin_cases a
  · show s.val + 1 ≤ 2; omega
  · show 0 + 2048 ≤ 2048; omega
  · show 0 + 2 ≤ 2; omega
theorem slotOff_o (s : Fin 2) : ∀ a, slotOff s a + S1x2048x3.size a ≤ S2x2048x3.size a := by
  have := s.isLt; intro a; fin_cases a
  · show s.val + 1 ≤ 2; omega
  · show 0 + 2048 ≤ 2048; omega
  · show 0 + 3 ≤ 3; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of `X`. -/
def xblk (b : Fin 8) : Memref sig .tc .hbm S2048x2 .f32 :=
  xM.slice (Rect.unit (s := S16384x2) (rowOff b) S2048x2.size (rowOff_x b)) (fun _ => rfl)
/-- Slot `s` of the input buffer. -/
def xslot (s : Fin 2) : Memref sig .tc .vmem S2048x2 .f32 :=
  (xB.slice (Rect.unit (s := S2x2048x2) (slotOff s) S1x2048x2.size (slotOff_x s)) (fun _ => rfl)).squeeze S2048x2 squeezes_S1x2048x2_S2048x2
/-- Its semaphore. -/
def semIn (s : Fin 2) : DmaSems sig S_ := (cc0_scratch6.slice (Rect.unit (s := S2) (semOff s) S1.size (semOff_inb s))).squeeze S_ squeezes_S1_S_
/-- Block `b` of the result. -/
def oblk (b : Fin 8) : Memref sig .tc .hbm S2048x3 .f32 :=
  oM.slice (Rect.unit (s := S16384x3) (rowOff b) S2048x3.size (rowOff_o b)) (fun _ => rfl)
/-- Slot `s` of the output buffer. -/
def oslot (s : Fin 2) : Memref sig .tc .vmem S2048x3 .f32 :=
  (oB.slice (Rect.unit (s := S2x2048x3) (slotOff s) S1x2048x3.size (slotOff_o s)) (fun _ => rfl)).squeeze S2048x3 squeezes_S1x2048x3_S2048x3
/-- Its semaphore. -/
def semOut (s : Fin 2) : DmaSems sig S_ := (cc0_scratch7.slice (Rect.unit (s := S2) (semOff s) S1.size (semOff_inb s))).squeeze S_ squeezes_S1_S_

instance (s : Fin 2) : ClosedOff (slotOff s) := ⟨slotOff s, rfl⟩
instance (b : Fin 8) : ClosedOff (rowOff b) := ⟨rowOff b, rfl⟩

/-! ## The conditions, by the point's number -/

theorem cond1_iff : ∀ i : grid0.Coords, k0_cond1 i = 1#1 ↔ pt i = 0 := by decide +kernel
theorem cond2_iff : ∀ i : grid0.Coords, k0_cond2 i = 1#1 ↔ pt i < 7 := by decide +kernel
theorem cond3_iff : ∀ i : grid0.Coords, k0_cond3 i = 1#1 ↔ 2 ≤ pt i := by decide +kernel
theorem cond4_iff : ∀ i : grid0.Coords, k0_cond4 i = 1#1 ↔ pt i = 7 := by decide +kernel

/-! ## The offsets, by the point's number -/

theorem sl_cur (n : ℕ) : (Ring.sl 2 n).val = n % 2 := by simp [Ring.sl, Fin.ofNat]
theorem sl_next (n : ℕ) : (Ring.sl 2 (n + 1)).val = 1 - n % 2 := by simp [Ring.sl, Fin.ofNat]; omega

theorem off2_eq (i : grid0.Coords) : k0_off2 i = semOff (Ring.sl 2 (pt i + 1)) := by rw [k0_off2_eq, semOff, sl_next]
theorem off3_eq (i : grid0.Coords) : k0_off3 i = slotOff (Ring.sl 2 (pt i + 1)) := by rw [k0_off3_eq, slotOff, sl_next]
theorem off4_eq (i : grid0.Coords) (h : k0_cond2 i = 1#1) : k0_off4 i = rowOff (Ring.bk 8 (pt i + 1)) := by
  have := (cond2_iff i).1 h
  rw [k0_off4_eq, rowOff, Ring.bk_val (by omega), Nat.mul_add]
theorem off5_eq (i : grid0.Coords) : k0_off5 i = semOff (Ring.sl 2 (pt i)) := by rw [k0_off5_eq, semOff, sl_cur]
theorem off6_eq (i : grid0.Coords) : k0_off6 i = slotOff (Ring.sl 2 (pt i)) := by rw [k0_off6_eq, slotOff, sl_cur]
theorem off7_eq (i : grid0.Coords) : k0_off7 i = rowOff (Ring.bk 8 (pt i)) := by rw [k0_off7_eq, rowOff, Ring.bk_val (pt_lt i)]
theorem off8_eq (i : grid0.Coords) : k0_off8 i = semOff (Ring.sl 2 (pt i)) := by rw [k0_off8_eq, semOff, sl_cur]
theorem off9_eq : ∀ (i : grid0.Coords), k0_cond3 i = 1#1 → k0_off9 i = rowOff (Ring.bk 8 (pt i - 2)) := by decide +kernel
theorem off10_eq (i : grid0.Coords) : k0_off10 i = slotOff (Ring.sl 2 (pt i)) := by rw [k0_off10_eq, slotOff, sl_cur]
theorem off11_eq (i : grid0.Coords) : k0_off11 i = slotOff (Ring.sl 2 (pt i)) := by rw [k0_off11_eq, slotOff, sl_cur]
theorem off12_eq (i : grid0.Coords) : k0_off12 i = rowOff (Ring.bk 8 (pt i)) := by rw [k0_off12_eq, rowOff, Ring.bk_val (pt_lt i)]
theorem off13_eq (i : grid0.Coords) : k0_off13 i = semOff (Ring.sl 2 (pt i + 1)) := by rw [k0_off13_eq, semOff, sl_next]
theorem off14_eq : ∀ (i : grid0.Coords), k0_cond4 i = 1#1 → k0_off14 i = rowOff (Ring.bk 8 (pt i - 1)) := by decide +kernel
theorem off15_eq (i : grid0.Coords) : k0_off15 i = slotOff (Ring.sl 2 (pt i + 1)) := by rw [k0_off15_eq, slotOff, sl_next]
theorem off16_eq (i : grid0.Coords) : k0_off16 i = semOff (Ring.sl 2 (pt i)) := by rw [k0_off16_eq, semOff, sl_cur]
theorem off17_eq (i : grid0.Coords) : k0_off17 i = rowOff (Ring.bk 8 (pt i)) := by rw [k0_off17_eq, rowOff, Ring.bk_val (pt_lt i)]
theorem off18_eq (i : grid0.Coords) : k0_off18 i = slotOff (Ring.sl 2 (pt i)) := by rw [k0_off18_eq, slotOff, sl_cur]

/-! ## The kernel's slices are these names -/

private theorem semIn_congr {off : Fin 1 → Nat} {s : Fin 2} (e : off = semOff s) (hh) :
    (cc0_scratch6.slice (Rect.unit (s := S2) off S1.size hh)).squeeze S_ squeezes_S1_S_ = semIn s :=
  congrArg (fun A : DmaSems sig S1 => A.squeeze S_ squeezes_S1_S_) (SemArray.slice_unit_congr _ e _ _)
private theorem semOut_congr {off : Fin 1 → Nat} {s : Fin 2} (e : off = semOff s) (hh) :
    (cc0_scratch7.slice (Rect.unit (s := S2) off S1.size hh)).squeeze S_ squeezes_S1_S_ = semOut s :=
  congrArg (fun A : DmaSems sig S1 => A.squeeze S_ squeezes_S1_S_) (SemArray.slice_unit_congr _ e _ _)
private theorem xslot_congr {off : Fin 3 → Nat} {s : Fin 2} (e : off = slotOff s) (hh hs) :
    (xB.slice (Rect.unit (s := S2x2048x2) off S1x2048x2.size hh) hs).squeeze S2048x2 squeezes_S1x2048x2_S2048x2 = xslot s :=
  congrArg (fun M : Memref sig .tc .vmem S1x2048x2 .f32 => M.squeeze S2048x2 squeezes_S1x2048x2_S2048x2) (Memref.slice_unit_congr _ e _ _ _ _)
private theorem oslot_congr {off : Fin 3 → Nat} {s : Fin 2} (e : off = slotOff s) (hh hs) :
    (oB.slice (Rect.unit (s := S2x2048x3) off S1x2048x3.size hh) hs).squeeze S2048x3 squeezes_S1x2048x3_S2048x3 = oslot s :=
  congrArg (fun M : Memref sig .tc .vmem S1x2048x3 .f32 => M.squeeze S2048x3 squeezes_S1x2048x3_S2048x3) (Memref.slice_unit_congr _ e _ _ _ _)
private theorem xblk_congr {off : Fin 2 → Nat} {b : Fin 8} (e : off = rowOff b) (hh hs) :
    xM.slice (Rect.unit (s := S16384x2) off S2048x2.size hh) hs = xblk b := Memref.slice_unit_congr _ e _ _ _ (fun _ => rfl)
private theorem oblk_congr {off : Fin 2 → Nat} {b : Fin 8} (e : off = rowOff b) (hh hs) :
    oM.slice (Rect.unit (s := S16384x3) off S2048x3.size hh) hs = oblk b := Memref.slice_unit_congr _ e _ _ _ (fun _ => rfl)

section Canon
variable (i : grid0.Coords)

-- the first point's own start of block 0
@[sl_canon] theorem c_sem0 (hh) : (cc0_scratch6.slice (Rect.unit (s := S2) ![0] S1.size hh)).squeeze S_ squeezes_S1_S_ = semIn 0 := semIn_congr (by decide) _
@[sl_canon] theorem c_slot0 (hh hs) : (xB.slice (Rect.unit (s := S2x2048x2) ![0, 0, 0] S1x2048x2.size hh) hs).squeeze S2048x2 squeezes_S1x2048x2_S2048x2 = xslot 0 := xslot_congr (by decide) _ _
@[sl_canon] theorem c_blk0 (hh hs) : xM.slice (Rect.unit (s := S16384x2) k0_off1 S2048x2.size hh) hs = xblk 0 := xblk_congr (by decide) _ _
-- the start of the next block
@[sl_canon] theorem c_off2 (hh) : (cc0_scratch6.slice (Rect.unit (s := S2) (k0_off2 i) S1.size hh)).squeeze S_ squeezes_S1_S_ = semIn (Ring.sl 2 (pt i + 1)) := semIn_congr (off2_eq i) _
@[sl_canon] theorem c_off3 (hh hs) : (xB.slice (Rect.unit (s := S2x2048x2) (k0_off3 i) S1x2048x2.size hh) hs).squeeze S2048x2 squeezes_S1x2048x2_S2048x2 = xslot (Ring.sl 2 (pt i + 1)) := xslot_congr (off3_eq i) _ _
@[sl_canon] theorem c_off4 (h : k0_cond2 i = 1#1) (hh hs) : xM.slice (Rect.unit (s := S16384x2) (k0_off4 i) S2048x2.size hh) hs = xblk (Ring.bk 8 (pt i + 1)) := xblk_congr (off4_eq i h) _ _
-- the wait for this block, and its slot
@[sl_canon] theorem c_off5 (hh) : (cc0_scratch6.slice (Rect.unit (s := S2) (k0_off5 i) S1.size hh)).squeeze S_ squeezes_S1_S_ = semIn (Ring.sl 2 (pt i)) := semIn_congr (off5_eq i) _
@[sl_canon] theorem c_off6 (hh hs) : (xB.slice (Rect.unit (s := S2x2048x2) (k0_off6 i) S1x2048x2.size hh) hs).squeeze S2048x2 squeezes_S1x2048x2_S2048x2 = xslot (Ring.sl 2 (pt i)) := xslot_congr (off6_eq i) _ _
@[sl_canon] theorem c_off7 (hh hs) : xM.slice (Rect.unit (s := S16384x2) (k0_off7 i) S2048x2.size hh) hs = xblk (Ring.bk 8 (pt i)) := xblk_congr (off7_eq i) _ _
-- the wait for the result block of two points ago
@[sl_canon] theorem c_off8 (hh) : (cc0_scratch7.slice (Rect.unit (s := S2) (k0_off8 i) S1.size hh)).squeeze S_ squeezes_S1_S_ = semOut (Ring.sl 2 (pt i)) := semOut_congr (off8_eq i) _
@[sl_canon] theorem c_off9 (h : k0_cond3 i = 1#1) (hh hs) : oM.slice (Rect.unit (s := S16384x3) (k0_off9 i) S2048x3.size hh) hs = oblk (Ring.bk 8 (pt i - 2)) := oblk_congr (off9_eq i h) _ _
@[sl_canon] theorem c_off10 (hh hs) : (oB.slice (Rect.unit (s := S2x2048x3) (k0_off10 i) S1x2048x3.size hh) hs).squeeze S2048x3 squeezes_S1x2048x3_S2048x3 = oslot (Ring.sl 2 (pt i)) := oslot_congr (off10_eq i) _ _
-- the start of this result block
@[sl_canon] theorem c_off11 (hh hs) : (oB.slice (Rect.unit (s := S2x2048x3) (k0_off11 i) S1x2048x3.size hh) hs).squeeze S2048x3 squeezes_S1x2048x3_S2048x3 = oslot (Ring.sl 2 (pt i)) := oslot_congr (off11_eq i) _ _
@[sl_canon] theorem c_off5o (hh) : (cc0_scratch7.slice (Rect.unit (s := S2) (k0_off5 i) S1.size hh)).squeeze S_ squeezes_S1_S_ = semOut (Ring.sl 2 (pt i)) := semOut_congr (off5_eq i) _
@[sl_canon] theorem c_off12 (hh hs) : oM.slice (Rect.unit (s := S16384x3) (k0_off12 i) S2048x3.size hh) hs = oblk (Ring.bk 8 (pt i)) := oblk_congr (off12_eq i) _ _
-- the last point's two waits
@[sl_canon] theorem c_off13 (hh) : (cc0_scratch7.slice (Rect.unit (s := S2) (k0_off13 i) S1.size hh)).squeeze S_ squeezes_S1_S_ = semOut (Ring.sl 2 (pt i + 1)) := semOut_congr (off13_eq i) _
@[sl_canon] theorem c_off14 (h : k0_cond4 i = 1#1) (hh hs) : oM.slice (Rect.unit (s := S16384x3) (k0_off14 i) S2048x3.size hh) hs = oblk (Ring.bk 8 (pt i - 1)) := oblk_congr (off14_eq i h) _ _
@[sl_canon] theorem c_off15 (hh hs) : (oB.slice (Rect.unit (s := S2x2048x3) (k0_off15 i) S1x2048x3.size hh) hs).squeeze S2048x3 squeezes_S1x2048x3_S2048x3 = oslot (Ring.sl 2 (pt i + 1)) := oslot_congr (off15_eq i) _ _
@[sl_canon] theorem c_off16 (hh) : (cc0_scratch7.slice (Rect.unit (s := S2) (k0_off16 i) S1.size hh)).squeeze S_ squeezes_S1_S_ = semOut (Ring.sl 2 (pt i)) := semOut_congr (off16_eq i) _
@[sl_canon] theorem c_off17 (hh hs) : oM.slice (Rect.unit (s := S16384x3) (k0_off17 i) S2048x3.size hh) hs = oblk (Ring.bk 8 (pt i)) := oblk_congr (off17_eq i) _ _
@[sl_canon] theorem c_off18 (hh hs) : (oB.slice (Rect.unit (s := S2x2048x3) (k0_off18 i) S1x2048x3.size hh) hs).squeeze S2048x3 squeezes_S1x2048x3_S2048x3 = oslot (Ring.sl 2 (pt i)) := oslot_congr (off18_eq i) _ _

end Canon

end Cert.Proof.Ring8

end
-- ==== Proof.Tile.lean ====
/-
  What one grid point computes, as plain functions of the arrays it reads: the four block-diagonal weight matrices it assembles
  once, and the 2048×3 block of results it writes from a 2048×2 block of points.
-/
module

public import proofs.«01_k».proof.Proof.Names
public import Idealize.ShloMosaic.Lib.ValueIdxCore
public import Idealize.ShloMosaic.Lib.VecWindow

@[expose] public section

noncomputable section

namespace Cert.Proof.Ring8

open Cert.KernelIdeal Cert.KernelIdeal.Gen
open Idealize.ShloMosaic Idealize.SL.Sem

variable {F : FTy → Type} [FloatOps F]

/-- The eleven small arrays every grid point reads: grid sizes, the matrix that spreads the points over the lanes, the hash
table's head, and the four layers' weights and biases. -/
structure Vals (F : FTy → Type) [FloatOps F] where
  n : Vec F S1x128 .f32
  s : Vec F S8x256 .f32
  t : Vec F S2x4x2 .f32
  w1 : Vec F S64x32 .f32
  b1 : Vec F S1x64 .f32
  w2 : Vec F S64x64 .f32
  b2 : Vec F S1x64 .f32
  w3 : Vec F S64x64 .f32
  b3 : Vec F S1x64 .f32
  w4 : Vec F S3x64 .f32
  b4 : Vec F S1x3 .f32

/-- The stores that assemble the first layer's matrix, last first: four copies of the weights down the diagonal, over zeros. -/
def pieces1 (w : Vec F S64x32 .f32) : List (View.Piece (Elt F) S256x128 .f32) :=
  [⟨Rect.unit ![192, 96] S64x32.size inb_S256x128_S64x32_192_96, k0_pay5 w⟩, ⟨Rect.unit ![128, 64] S64x32.size inb_S256x128_S64x32_128_64, k0_pay5 w⟩,
    ⟨Rect.unit ![64, 32] S64x32.size inb_S256x128_S64x32_64_32, k0_pay5 w⟩, ⟨Rect.unit ![0, 0] S64x32.size inb_S256x128_S64x32_0_0, k0_pay5 w⟩,
    ⟨Rect.unit ![0, 0] S256x128.size inb_S256x128_S256x128_0_0, k0_pay1⟩]
/-- The same for a square layer, over the zeros `z`. -/
def pieces2 (w : Vec F S64x64 .f32) : List (View.Piece (Elt F) S256x256 .f32) :=
  [⟨Rect.unit ![192, 192] S64x64.size inb_S256x256_S64x64_192_192, k0_pay6 w⟩, ⟨Rect.unit ![128, 128] S64x64.size inb_S256x256_S64x64_128_128, k0_pay6 w⟩,
    ⟨Rect.unit ![64, 64] S64x64.size inb_S256x256_S64x64_64_64, k0_pay6 w⟩, ⟨Rect.unit ![0, 0] S64x64.size inb_S256x256_S64x64_0_0, k0_pay6 w⟩,
    ⟨Rect.unit ![0, 0] S256x256.size inb_S256x256_S256x256_0_0, k0_pay2⟩]
/-- The same for the last layer. -/
def pieces4 (w : Vec F S3x64 .f32) : List (View.Piece (Elt F) S12x256 .f32) :=
  [⟨Rect.unit ![9, 192] S3x64.size inb_S12x256_S3x64_9_192, k0_pay8 w⟩, ⟨Rect.unit ![6, 128] S3x64.size inb_S12x256_S3x64_6_128, k0_pay8 w⟩,
    ⟨Rect.unit ![3, 64] S3x64.size inb_S12x256_S3x64_3_64, k0_pay8 w⟩, ⟨Rect.unit ![0, 0] S3x64.size inb_S12x256_S3x64_0_0, k0_pay8 w⟩,
    ⟨Rect.unit ![0, 0] S12x256.size inb_S12x256_S12x256_0_0, k0_pay4⟩]

/-- The assembled matrices. -/
def diag1 (w : Vec F S64x32 .f32) : Vec F S256x128 .f32 := View.canon (pieces1 w)
def diag2 (w : Vec F S64x64 .f32) : Vec F S256x256 .f32 := View.canon (pieces2 w)
def diag4 (w : Vec F S3x64 .f32) : Vec F S12x256 .f32 := View.canon (pieces4 w)

section Read
variable {sig : RefSig} {κ : Kind} {sp : Space}

theorem read_pieces1 (v : View sig κ sp S256x128 .f32) (f : v.ty.Contents (Elt F)) (w : Vec F S64x32 .f32) :
    v.read (Elt F) (v.writes (Elt F) f (pieces1 w)) = diag1 w :=
  View.read_writes_eq_canon v f _ fun y => ⟨_, by simp only [pieces1]; exact List.mem_cons_of_mem _ (List.mem_cons_of_mem _ (List.mem_cons_of_mem _ (List.mem_cons_of_mem _ List.mem_cons_self))),
    by rw [Rect.mem_set_unit]; exact Fin.forall_fin_two.mpr ⟨⟨Nat.zero_le _, (by simpa using (y 0).isLt)⟩, ⟨Nat.zero_le _, (by simpa using (y 1).isLt)⟩⟩⟩
theorem read_pieces2 (v : View sig κ sp S256x256 .f32) (f : v.ty.Contents (Elt F)) (w : Vec F S64x64 .f32) :
    v.read (Elt F) (v.writes (Elt F) f (pieces2 w)) = diag2 w :=
  View.read_writes_eq_canon v f _ fun y => ⟨_, by simp only [pieces2]; exact List.mem_cons_of_mem _ (List.mem_cons_of_mem _ (List.mem_cons_of_mem _ (List.mem_cons_of_mem _ List.mem_cons_self))),
    by rw [Rect.mem_set_unit]; exact Fin.forall_fin_two.mpr ⟨⟨Nat.zero_le _, (by simpa using (y 0).isLt)⟩, ⟨Nat.zero_le _, (by simpa using (y 1).isLt)⟩⟩⟩
theorem read_pieces4 (v : View sig κ sp S12x256 .f32) (f : v.ty.Contents (Elt F)) (w : Vec F S3x64 .f32) :
    v.read (Elt F) (v.writes (Elt F) f (pieces4 w)) = diag4 w :=
  View.read_writes_eq_canon v f _ fun y => ⟨_, by simp only [pieces4]; exact List.mem_cons_of_mem _ (List.mem_cons_of_mem _ (List.mem_cons_of_mem _ (List.mem_cons_of_mem _ List.mem_cons_self))),
    by rw [Rect.mem_set_unit]; exact Fin.forall_fin_two.mpr ⟨⟨Nat.zero_le _, (by simpa using (y 0).isLt)⟩, ⟨Nat.zero_le _, (by simpa using (y 1).isLt)⟩⟩⟩

end Read

/-- Every fourth row of a block of points, from row `p`. -/
abbrev xR0 : LoadRect S2048x2 := ⟨![0, 0], S512x2.size, ![4, 1], inb_S2048x2_S512x2_0_0_s_4_1⟩
abbrev xR1 : LoadRect S2048x2 := ⟨![1, 0], S512x2.size, ![4, 1], inb_S2048x2_S512x2_1_0_s_4_1⟩
abbrev xR2 : LoadRect S2048x2 := ⟨![2, 0], S512x2.size, ![4, 1], inb_S2048x2_S512x2_2_0_s_4_1⟩
abbrev xR3 : LoadRect S2048x2 := ⟨![3, 0], S512x2.size, ![4, 1], inb_S2048x2_S512x2_3_0_s_4_1⟩

/-- Every fourth row of a block of results, from row `p`. -/
abbrev oR0 : Rect S2048x3 := ⟨(⟨![0, 0], S512x3.size, ![4, 1], inb_S2048x3_S512x3_0_0_s_4_1⟩ : LoadRect S2048x3), spos_4_1⟩
abbrev oR1 : Rect S2048x3 := ⟨(⟨![1, 0], S512x3.size, ![4, 1], inb_S2048x3_S512x3_1_0_s_4_1⟩ : LoadRect S2048x3), spos_4_1⟩
abbrev oR2 : Rect S2048x3 := ⟨(⟨![2, 0], S512x3.size, ![4, 1], inb_S2048x3_S512x3_2_0_s_4_1⟩ : LoadRect S2048x3), spos_4_1⟩
abbrev oR3 : Rect S2048x3 := ⟨(⟨![3, 0], S512x3.size, ![4, 1], inb_S2048x3_S512x3_3_0_s_4_1⟩ : LoadRect S2048x3), spos_4_1⟩

/-- One entry of the table. -/
abbrev ent (t : Vec F S2x4x2 .f32) (off : Fin 3 → ℕ) (inb : ∀ a, off a + S1x1x1.size a ≤ S2x4x2.size a) : Elt F .f32 :=
  t ((Rect.unit (s := S2x4x2) off S1x1x1.size inb).toLoadRect.idx (Shape.Idx.first (Nat.one_pos.trans_eq numel1_S1x1x1.symm)))

/-- The lanes of odd number. -/
def mask : IVec S1x128 1 :=
  k0_pay35 (Scalar.select (Scalar.cmpi .eq 2#32 0#32) 1#32 2#32) k0_pay31 k0_pay32 k0_pay33 k0_pay34

/-- A table row spread over the lanes: its second entry on odd lanes, its first on even ones. -/
def sel (a b : Elt F .f32) : FVec F S1x128 .f32 :=
  k0_pay36 (Scalar.select (Scalar.cmpi .eq 2#32 0#32) 1#32 2#32) k0_pay31 k0_pay32 k0_pay33 k0_pay34 a b

/-- The features of 512 groups of four points, 32 lanes to a point. -/
def feats (v : Vals F) (x0 x1 x2 x3 : Vec F S512x2 .f32) : FVec F S512x128 .f32 :=
  k0_pay40 (k0_pay26 x0 x1 x2 x3 v.s v.n) (k0_pay27 x0 x1 x2 x3 v.s v.n) (k0_pay28 x0 x1 x2 x3 v.s v.n) (k0_pay29 x0 x1 x2 x3 v.s v.n)
    (k0_pay30 x0 x1 x2 x3 v.s v.n) mask
    (sel (ent v.t ![0, 0, 1] inb_S2x4x2_S1x1x1_0_0_1) (ent v.t ![0, 0, 0] inb_S2x4x2_S1x1x1_0_0_0))
    (sel (ent v.t ![0, 1, 1] inb_S2x4x2_S1x1x1_0_1_1) (ent v.t ![0, 1, 0] inb_S2x4x2_S1x1x1_0_1_0))
    (sel (ent v.t ![0, 2, 1] inb_S2x4x2_S1x1x1_0_2_1) (ent v.t ![0, 2, 0] inb_S2x4x2_S1x1x1_0_2_0))
    (sel (ent v.t ![0, 3, 1] inb_S2x4x2_S1x1x1_0_3_1) (ent v.t ![0, 3, 0] inb_S2x4x2_S1x1x1_0_3_0))
    (ent v.t ![1, 1, 1] inb_S2x4x2_S1x1x1_1_1_1) (ent v.t ![1, 1, 0] inb_S2x4x2_S1x1x1_1_1_0)
    (ent v.t ![1, 2, 1] inb_S2x4x2_S1x1x1_1_2_1) (ent v.t ![1, 2, 0] inb_S2x4x2_S1x1x1_1_2_0)
    (ent v.t ![1, 3, 1] inb_S2x4x2_S1x1x1_1_3_1) (ent v.t ![1, 3, 0] inb_S2x4x2_S1x1x1_1_3_0)

/-- The four layers on those features, before the last bias: three results to a point. -/
def layers (v : Vals F) (x0 x1 x2 x3 : Vec F S512x2 .f32) : FVec F S512x12 .f32 :=
  k0_pay41 (feats v x0 x1 x2 x3) (diag1 v.w1) v.b1 (diag2 v.w2) v.b2 (diag2 v.w3) v.b3 (diag4 v.w4)

/-- The four stores of results: point `p` of every group to every fourth row from row `p`. -/
def outPieces (u : FVec F S512x12 .f32) (b4 : Vec F S1x3 .f32) : List (View.Piece (Elt F) S2048x3 .f32) :=
  [⟨oR3, k0_pay46 u b4⟩, ⟨oR2, k0_pay45 u b4⟩, ⟨oR1, k0_pay44 u b4⟩, ⟨oR0, k0_pay43 u b4⟩]

/-- The block of results of a block of points. -/
def tile (v : Vals F) (x : Vec F S2048x2 .f32) : Vec F S2048x3 .f32 :=
  View.canon (outPieces (layers v (fun j => x (xR0.idx j)) (fun j => x (xR1.idx j)) (fun j => x (xR2.idx j)) (fun j => x (xR3.idx j))) v.b4)

/-- Row `4r + p` lies in the rows from row `p`, at position `r`. -/
theorem emb_oR0 (y : S2048x3.Idx) (r : Fin 512) (h : (y 0).val = 4 * r.val + 0) : oR0.emb (ValueIdx.ix2 r (y 1) : S512x3.Idx) = y :=
  funext (Fin.forall_fin_two.mpr ⟨Fin.ext (by show 0 + 4 * r.val = _; omega), Fin.ext (by show 0 + 1 * (y 1).val = _; omega)⟩)
theorem emb_oR1 (y : S2048x3.Idx) (r : Fin 512) (h : (y 0).val = 4 * r.val + 1) : oR1.emb (ValueIdx.ix2 r (y 1) : S512x3.Idx) = y :=
  funext (Fin.forall_fin_two.mpr ⟨Fin.ext (by show 1 + 4 * r.val = _; omega), Fin.ext (by show 0 + 1 * (y 1).val = _; omega)⟩)
theorem emb_oR2 (y : S2048x3.Idx) (r : Fin 512) (h : (y 0).val = 4 * r.val + 2) : oR2.emb (ValueIdx.ix2 r (y 1) : S512x3.Idx) = y :=
  funext (Fin.forall_fin_two.mpr ⟨Fin.ext (by show 2 + 4 * r.val = _; omega), Fin.ext (by show 0 + 1 * (y 1).val = _; omega)⟩)
theorem emb_oR3 (y : S2048x3.Idx) (r : Fin 512) (h : (y 0).val = 4 * r.val + 3) : oR3.emb (ValueIdx.ix2 r (y 1) : S512x3.Idx) = y :=
  funext (Fin.forall_fin_two.mpr ⟨Fin.ext (by show 3 + 4 * r.val = _; omega), Fin.ext (by show 0 + 1 * (y 1).val = _; omega)⟩)

/-- A member of a rectangle, from its position. -/
theorem mem_of_emb {s : Shape} (R : Rect s) (x : R.shape.Idx) (y : s.Idx) (h : R.emb x = y) : y ∈ R.set := by
  rw [← h, ← Rect.map_emb_univ]; exact Finset.mem_map_of_mem _ (Finset.mem_univ x)

theorem out_cover (u : FVec F S512x12 .f32) (b4 : Vec F S1x3 .f32) (y : S2048x3.Idx) : ∃ p ∈ outPieces u b4, y ∈ p.1.set := by
  have hy : (y 0).val < 2048 := (y 0).isLt
  have hr : (y 0).val / 4 < 512 := by omega
  rcases (by omega : (y 0).val % 4 = 0 ∨ (y 0).val % 4 = 1 ∨ (y 0).val % 4 = 2 ∨ (y 0).val % 4 = 3) with h | h | h | h
  · exact ⟨⟨oR0, k0_pay43 u b4⟩, by simp [outPieces], mem_of_emb oR0 _ y (emb_oR0 y ⟨_, hr⟩ (by show _ = 4 * ((y 0).val / 4) + 0; omega))⟩
  · exact ⟨⟨oR1, k0_pay44 u b4⟩, by simp [outPieces], mem_of_emb oR1 _ y (emb_oR1 y ⟨_, hr⟩ (by show _ = 4 * ((y 0).val / 4) + 1; omega))⟩
  · exact ⟨⟨oR2, k0_pay45 u b4⟩, by simp [outPieces], mem_of_emb oR2 _ y (emb_oR2 y ⟨_, hr⟩ (by show _ = 4 * ((y 0).val / 4) + 2; omega))⟩
  · exact ⟨⟨oR3, k0_pay46 u b4⟩, by simp [outPieces], mem_of_emb oR3 _ y (emb_oR3 y ⟨_, hr⟩ (by show _ = 4 * ((y 0).val / 4) + 3; omega))⟩

/-- What the four stores leave, over any contents. -/
theorem read_outPieces {sig : RefSig} {κ : Kind} {sp : Space} (v : View sig κ sp S2048x3 .f32) (f : v.ty.Contents (Elt F))
    (u : FVec F S512x12 .f32) (b4 : Vec F S1x3 .f32) :
    v.read (Elt F) (v.writes (Elt F) f (outPieces u b4)) = View.canon (outPieces u b4) :=
  View.read_writes_eq_canon v f _ (out_cover u b4)

/-- A strided load of a slot that a block of points has just filled. -/
theorem readCov_whole {sig : RefSig} {κ : Kind} {sp : Space} (v : View sig κ sp S2048x2 .f32) (x : (Rect.whole S2048x2).shape.Idx → Elt F .f32) (R : LoadRect S2048x2) :
    v.readCov [⟨Rect.whole S2048x2, x⟩] R = fun j => x (R.idx j) := by
  rw [View.readCov_eq_canon']
  funext j
  have h := View.canon_cons_emb (Val := Elt F) (Rect.whole S2048x2) x [] (R.idx j)
  rwa [Rect.emb_whole_apply] at h

end Cert.Proof.Ring8

end
-- ==== Proof.Body.lean ====
/-
  One grid point of the kernel, run: from the buffers it is given — the eleven windows, the assembled weights, its slots, the
  transfers in flight — to the buffers and transfers it leaves, at each of the four kinds of point (the first; the second; the
  middle ones; the last).
-/
module

public import proofs.«01_k».proof.Proof.Tile

@[expose] public section

set_option maxHeartbeats 2000000

noncomputable section

namespace Cert.Proof.Ring8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two algebras the proof carries: the windows' rounds, and the transfers' counters. -/
abbrev UU (nD : Nat) (τ : Topo) : Type := UR sig nD τ × Counters
local notation "𝕄" => MT nD τ sig Unit (Elt F) ℕ (UU nD τ) ℕ
/-- No loop has a variant here. -/
abbrev 𝒱₀ : Variants := Variants.none

section Pieces
variable (c : Dev nD)

/-- Contents of the array of points, and of the array of results. -/
abbrev XBuf : Type := Buf (Elt F) (xM.view.loc (c : Thread nD τ))
abbrev OBuf : Type := Buf (Elt F) (oM.view.loc (c : Thread nD τ))

/-- The semaphore cells at rest; the slots and the blocks, each held by itself. -/
abbrev cellIn (s : Fin 2) : sProp 𝕄 := semVal ((c : Thread nD τ), SemLoc.dma (semIn s).sem) 0
abbrev cellOut (s : Fin 2) : sProp 𝕄 := semVal ((c : Thread nD τ), SemLoc.dma (semOut s).sem) 0
abbrev xslotP (s : Fin 2) (f : Buf (Elt F) ((xslot s).view.loc (c : Thread nD τ))) : sProp 𝕄 :=
  (xslot s).view.loc (c : Thread nD τ) ↦[(xslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xblkP (X : XBuf (F := F) c) (b : Fin 8) : sProp 𝕄 := (xblk b).view.loc (c : Thread nD τ) ↦[(xblk b).view.set]{fullShare} X
abbrev oblkP (O : OBuf (F := F) c) (b : Fin 8) : sProp 𝕄 := (oblk b).view.loc (c : Thread nD τ) ↦[(oblk b).view.set]{fullShare} O
/-- A slot once block `b` of the points has landed in it, and that transfer in flight. -/
abbrev xlanded (X : XBuf (F := F) c) (s : Fin 2) (b : Fin 8) (f : Buf (Elt F) ((xslot s).view.loc (c : Thread nD τ))) : Buf (Elt F) ((xslot s).view.loc (c : Thread nD τ)) :=
  (xslot s).view.writes (Elt F) f [⟨Rect.whole S2048x2, ReadAs.same.apply ((xblk b).view.read (Elt F) X)⟩]
abbrev xflight (X : XBuf (F := F) c) (s : Fin 2) (b : Fin 8) (f : Buf (Elt F) ((xslot s).view.loc (c : Thread nD τ))) : sProp 𝕄 :=
  Transfers.Flight countersEmb (c : Thread nD τ) (SemLoc.dma (semIn s).sem) () 32768 iprop(xslotP c s (xlanded c X s b f) ∗ xblkP c X b)

/-- A block of results `G` in flight from a slot to block `b` of the result. -/
abbrev oflight (O : OBuf (F := F) c) (s : Fin 2) (b : Fin 8) (G : S2048x3.Idx → Elt F .f32) (f : Buf (Elt F) ((oslot s).view.loc (c : Thread nD τ))) : sProp 𝕄 :=
  Transfers.Flight countersEmb (c : Thread nD τ) (SemLoc.dma (semOut s).sem) () 32768
    iprop(((oblk b).view.loc (c : Thread nD τ) ↦[(oblk b).view.set]{fullShare} (oblk b).view.writes (Elt F) O [⟨Rect.whole S2048x3, G⟩]) ∗ oslotP c s f)

end Pieces

section Run
variable (c : Dev nD) (X : XBuf (F := F) c) (O : OBuf (F := F) c) (i : grid0.Coords)
variable (arg2 : Memref sig .tc .vmem S1x128 .f32) (harg2 : arg2.IsWhole) (arg3 : Memref sig .tc .vmem S8x256 .f32) (harg3 : arg3.IsWhole)
  (arg4 : Memref sig .tc .smem S2x4x2 .f32) (harg4 : arg4.IsWhole) (arg5 : Memref sig .tc .vmem S64x32 .f32) (harg5 : arg5.IsWhole)
  (arg6 : Memref sig .tc .vmem S1x64 .f32) (harg6 : arg6.IsWhole) (arg7 : Memref sig .tc .vmem S64x64 .f32) (harg7 : arg7.IsWhole)
  (arg8 : Memref sig .tc .vmem S1x64 .f32) (harg8 : arg8.IsWhole) (arg9 : Memref sig .tc .vmem S64x64 .f32) (harg9 : arg9.IsWhole)
  (arg10 : Memref sig .tc .vmem S1x64 .f32) (harg10 : arg10.IsWhole) (arg11 : Memref sig .tc .vmem S3x64 .f32) (harg11 : arg11.IsWhole)
  (arg12 : Memref sig .tc .vmem S1x3 .f32) (harg12 : arg12.IsWhole)

/-- The scratches of assembled weights. -/
abbrev w1M : Memref sig .tc .vmem S256x128 .f32 := Memref.whole cc0_scratch2
abbrev w2M : Memref sig .tc .vmem S256x256 .f32 := Memref.whole cc0_scratch3
abbrev w3M : Memref sig .tc .vmem S256x256 .f32 := Memref.whole cc0_scratch4
abbrev w4M : Memref sig .tc .vmem S12x256 .f32 := Memref.whole cc0_scratch5

/-- The body at a grid point. -/
abbrev bodyG : Prog (TpuEff nD τ sig (Elt F) Λ₀ .tc) PUnit :=
  cc0__mlp_encode_kernel i xM (Memref.isWhole_whole _) arg2 harg2 arg3 harg3 arg4 harg4 arg5 harg5 arg6 harg6 arg7 harg7 arg8 harg8
    arg9 harg9 arg10 harg10 arg11 harg11 arg12 harg12 oM (Memref.isWhole_whole _) xB (Memref.isWhole_whole _) oB (Memref.isWhole_whole _)
    w1M (Memref.isWhole_whole _) w2M (Memref.isWhole_whole _) w3M (Memref.isWhole_whole _) w4M (Memref.isWhole_whole _) cc0_scratch6 cc0_scratch7

/-- A buffer held whole at given contents. -/
abbrev holds {sp sh e} (a : Memref sig .tc sp sh e) (f : Buf (Elt F) (a.view.loc (c : Thread nD τ))) : sProp 𝕄 :=
  a.view.loc (c : Thread nD τ) ↦[a.view.set]{fullShare} f

/-- The contents of the eleven windows' buffers. -/
structure Held where
  n : Buf (Elt F) (arg2.view.loc (c : Thread nD τ))
  s : Buf (Elt F) (arg3.view.loc (c : Thread nD τ))
  t : Buf (Elt F) (arg4.view.loc (c : Thread nD τ))
  w1 : Buf (Elt F) (arg5.view.loc (c : Thread nD τ))
  b1 : Buf (Elt F) (arg6.view.loc (c : Thread nD τ))
  w2 : Buf (Elt F) (arg7.view.loc (c : Thread nD τ))
  b2 : Buf (Elt F) (arg8.view.loc (c : Thread nD τ))
  w3 : Buf (Elt F) (arg9.view.loc (c : Thread nD τ))
  b3 : Buf (Elt F) (arg10.view.loc (c : Thread nD τ))
  w4 : Buf (Elt F) (arg11.view.loc (c : Thread nD τ))
  b4 : Buf (Elt F) (arg12.view.loc (c : Thread nD τ))
/-- The contents of the four weight scratches. -/
structure Scr where
  k1 : Buf (Elt F) (w1M.view.loc (c : Thread nD τ))
  k2 : Buf (Elt F) (w2M.view.loc (c : Thread nD τ))
  k3 : Buf (Elt F) (w3M.view.loc (c : Thread nD τ))
  k4 : Buf (Elt F) (w4M.view.loc (c : Thread nD τ))

/-- Those buffers, held. -/
abbrev heldP (h : Held (F := F) c arg2 arg3 arg4 arg5 arg6 arg7 arg8 arg9 arg10 arg11 arg12) : sProp 𝕄 :=
  iprop(holds c arg2 h.n ∗ holds c arg3 h.s ∗ holds c arg4 h.t ∗ holds c arg5 h.w1 ∗ holds c arg6 h.b1 ∗ holds c arg7 h.w2
    ∗ holds c arg8 h.b2 ∗ holds c arg9 h.w3 ∗ holds c arg10 h.b3 ∗ holds c arg11 h.w4 ∗ holds c arg12 h.b4)
abbrev scrP (k : Scr (F := F) c) : sProp 𝕄 :=
  iprop(holds c w1M k.k1 ∗ holds c w2M k.k2 ∗ holds c w3M k.k3 ∗ holds c w4M k.k4)

/-- What the windows' buffers read. -/
def Held.vals (h : Held (F := F) c arg2 arg3 arg4 arg5 arg6 arg7 arg8 arg9 arg10 arg11 arg12) : Vals F where
  n := arg2.view.readAt (Elt F) (Rect.unit ![0, 0] S1x128.size inb_S1x128_S1x128_0_0).toLoadRect h.n
  s := arg3.view.readAt (Elt F) (Rect.unit ![0, 0] S8x256.size inb_S8x256_S8x256_0_0).toLoadRect h.s
  t := arg4.view.read (Elt F) h.t
  w1 := arg5.view.readAt (Elt F) (Rect.unit ![0, 0] S64x32.size inb_S64x32_S64x32_0_0).toLoadRect h.w1
  b1 := arg6.view.readAt (Elt F) (Rect.unit ![0, 0] S1x64.size inb_S1x64_S1x64_0_0).toLoadRect h.b1
  w2 := arg7.view.readAt (Elt F) (Rect.unit ![0, 0] S64x64.size inb_S64x64_S64x64_0_0).toLoadRect h.w2
  b2 := arg8.view.readAt (Elt F) (Rect.unit ![0, 0] S1x64.size inb_S1x64_S1x64_0_0).toLoadRect h.b2
  w3 := arg9.view.readAt (Elt F) (Rect.unit ![0, 0] S64x64.size inb_S64x64_S64x64_0_0).toLoadRect h.w3
  b3 := arg10.view.readAt (Elt F) (Rect.unit ![0, 0] S1x64.size inb_S1x64_S1x64_0_0).toLoadRect h.b3
  w4 := arg11.view.readAt (Elt F) (Rect.unit ![0, 0] S3x64.size inb_S3x64_S3x64_0_0).toLoadRect h.w4
  b4 := arg12.view.readAt (Elt F) (Rect.unit ![0, 0] S1x3.size inb_S1x3_S1x3_0_0).toLoadRect h.b4

/-- The scratches read the assembled matrices of `v`'s weights. -/
structure Scr.Ok (k : Scr (F := F) c) (v : Vals F) : Prop where
  h1 : w1M.view.readAt (Elt F) (Rect.unit ![0, 0] S256x128.size inb_S256x128_S256x128_0_0).toLoadRect k.k1 = diag1 v.w1
  h2 : w2M.view.readAt (Elt F) (Rect.unit ![0, 0] S256x256.size inb_S256x256_S256x256_0_0).toLoadRect k.k2 = diag2 v.w2
  h3 : w3M.view.readAt (Elt F) (Rect.unit ![0, 0] S256x256.size inb_S256x256_S256x256_0_0).toLoadRect k.k3 = diag2 v.w3
  h4 : w4M.view.readAt (Elt F) (Rect.unit ![0, 0] S12x256.size inb_S12x256_S12x256_0_0).toLoadRect k.k4 = diag4 v.w4

/-- Block `b` of the points. -/
abbrev xval (b : Fin 8) : Vec F S2048x2 .f32 := (xblk b).view.read (Elt F) X

/-- What a point sends out is its block of results, whatever its slots held before: `x` is the block of points that landed,
`K₁ … K₄` what it read of the assembled weights, `y₀ … y₃` its four strided loads of the points, `u` the last layer's sums. -/
theorem tile_landed (v : Vals F) (s s' : Fin 2) (x : Vec F S2048x2 .f32) (fo : Buf (Elt F) ((oslot s').view.loc (c : Thread nD τ)))
    (K1 : Vec F S256x128 .f32) (K2 K3 : Vec F S256x256 .f32) (K4 : Vec F S12x256 .f32)
    (h1 : K1 = diag1 v.w1) (h2 : K2 = diag2 v.w2) (h3 : K3 = diag2 v.w3) (h4 : K4 = diag4 v.w4)
    (u : FVec F S512x12 .f32) (y0 y1 y2 y3 : Vec F S512x2 .f32)
    (hu : u = k0_pay41 (feats v y0 y1 y2 y3) K1 v.b1 K2 v.b2 K3 v.b3 K4)
    (hy0 : y0 = (xslot s).view.readCov [⟨Rect.whole S2048x2, x⟩] xR0) (hy1 : y1 = (xslot s).view.readCov [⟨Rect.whole S2048x2, x⟩] xR1)
    (hy2 : y2 = (xslot s).view.readCov [⟨Rect.whole S2048x2, x⟩] xR2) (hy3 : y3 = (xslot s).view.readCov [⟨Rect.whole S2048x2, x⟩] xR3) :
    ReadAs.same.apply ((oslot s').view.read (Elt F) ((oslot s').view.writes (Elt F) fo (outPieces u v.b4))) = tile v x := by
  subst h1 h2 h3 h4 hu hy0 hy1 hy2 hy3
  rw [readCov_whole, readCov_whole, readCov_whole, readCov_whole]
  exact read_outPieces (oslot s').view fo _ _

/-- Four writes of the diagonal blocks over zeros leave the assembled matrices, whatever the scratches held. -/
theorem ok_of_pieces (k : Scr (F := F) c) (v : Vals F) :
    Scr.Ok c ⟨w1M.view.writes (Elt F) k.k1 (pieces1 v.w1), w2M.view.writes (Elt F) k.k2 (pieces2 v.w2), w3M.view.writes (Elt F) k.k3 (pieces2 v.w3),
      w4M.view.writes (Elt F) k.k4 (pieces4 v.w4)⟩ v :=
  ⟨(View.readAt_full _ _ _).trans (read_pieces1 _ _ _), (View.readAt_full _ _ _).trans (read_pieces2 _ _ _),
    (View.readAt_full _ _ _).trans (read_pieces2 _ _ _), (View.readAt_full _ _ _).trans (read_pieces4 _ _ _)⟩

omit [FloatOps F] in
theorem sl0 (i : grid0.Coords) (h1 : k0_cond1 i = 1#1) : Ring.sl 2 (pt i) = 0 := by rw [(cond1_iff i).1 h1]; rfl
omit [FloatOps F] in
theorem sl1 (i : grid0.Coords) (h1 : k0_cond1 i = 1#1) : Ring.sl 2 (pt i + 1) = 1 := by rw [(cond1_iff i).1 h1]; rfl
omit [FloatOps F] in
theorem bk0 (i : grid0.Coords) (h1 : k0_cond1 i = 1#1) : Ring.bk 8 (pt i) = 0 := by rw [(cond1_iff i).1 h1]; rfl
omit [FloatOps F] in
theorem bk1 (i : grid0.Coords) (h1 : k0_cond1 i = 1#1) : Ring.bk 8 (pt i + 1) = 1 := by rw [(cond1_iff i).1 h1]; rfl

attribute [local sl_canon] sl0 sl1 bk0 bk1 in
/-- The first point: it assembles the weights, fetches block 0 and starts fetching block 1, and sends block 0 of the results. -/
theorem run0 (h1 : k0_cond1 i = 1#1) (h2 : k0_cond2 i = 1#1) (h3 : ¬ k0_cond3 i = 1#1) (h4 : ¬ k0_cond4 i = 1#1)
    (h : Held (F := F) c arg2 arg3 arg4 arg5 arg6 arg7 arg8 arg9 arg10 arg11 arg12) (k : Scr (F := F) c) (f0 f1 fo) (Q : PUnit → sProp 𝕄) :
    iprop(heldP c arg2 arg3 arg4 arg5 arg6 arg7 arg8 arg9 arg10 arg11 arg12 h ∗ scrP c k ∗ xblkP c X 0 ∗ xblkP c X 1 ∗ xslotP c 0 f0 ∗ xslotP c 1 f1 ∗ cellIn c 0 ∗ cellIn c 1 ∗ oslotP c 0 fo ∗ cellOut c 0 ∗ oblkP c O 0
      ∗ (∃ W, owes (c : Thread nD τ) 0 W)
      ∗ ((heldP c arg2 arg3 arg4 arg5 arg6 arg7 arg8 arg9 arg10 arg11 arg12 h ∗ (∃ k, ⌜Scr.Ok c k (h.vals c arg2 arg3 arg4 arg5 arg6 arg7 arg8 arg9 arg10 arg11 arg12)⌝ ∗ scrP c k) ∗ xblkP c X 0 ∗ xslotP c 0 (xlanded c X 0 0 f0) ∗ cellIn c 0 ∗ xflight c X 1 1 f1 ∗ (∃ G fo, ⌜G = tile (h.vals c arg2 arg3 arg4 arg5 arg6 arg7 arg8 arg9 arg10 arg11 arg12) (xval c X 0)⌝ ∗ oflight c O 0 0 G fo) ∗ (∃ W, owes (c : Thread nD τ) 0 W)) -∗ Q ⟨⟩))
    ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12) Q := by
  simp only [bodyG, cc0__mlp_encode_kernel_eq_skeleton]; unfold cc0__mlp_encode_kernel_skel
  iintro ⟨⟨Hn, Hs, Ht, Hw1, Hb1, Hw2, Hb2, Hw3, Hb3, Hw4, Hb4⟩, ⟨Hk1, Hk2, Hk3, Hk4⟩, Hx0, Hx1, Hxs0, Hxs1, Hci0, Hci1, Hos, Hco, Hob, ⟨%W, HW⟩, Hk⟩
  sl_exec
  sl_step
  iapply Hk
  isplitl [Hn Hs Ht Hw1 Hb1 Hw2 Hb2 Hw3 Hb3 Hw4 Hb4]; · unfold heldP; iframe
  isplitl [Hk1 Hk2 Hk3 Hk4]
  · iexists _
    isplitr
    · ipureintro
      exact ok_of_pieces c k (h.vals c arg2 arg3 arg4 arg5 arg6 arg7 arg8 arg9 arg10 arg11 arg12)
    · unfold scrP
      isplitl [Hk1]; · iexact Hk1
      isplitl [Hk2]; · iexact Hk2
      isplitl [Hk3]; · iexact Hk3
      iexact Hk4
  isplitl [Hx0]; · iexact Hx0
  isplitl [Hxs0]; · iexact Hxs0
  isplitl [Hci0]; · iexact Hci0
  isplitl [Hci1]; · iexact Hci1
  isplitl [Hco]
  · iexists _, _
    isplitr
    swap
    · iexact Hco
    · ipureintro
      unfold run0.sl.dma92 run0.sl.Hos_4
      exact tile_landed c (h.vals c arg2 arg3 arg4 arg5 arg6 arg7 arg8 arg9 arg10 arg11 arg12) 0 0 (xval c X 0) fo (run0.sl.v143 c arg2 arg3 arg4 arg5 arg6 arg7 arg8 arg9 arg10 arg11 arg12 h) (run0.sl.v155 c arg2 arg3 arg4 arg5 arg6 arg7 arg8 arg9 arg10 arg11 arg12 h) (run0.sl.v167 c arg2 arg3 arg4 arg5 arg6 arg7 arg8 arg9 arg10 arg11 arg12 h) (run0.sl.v179 c arg2 arg3 arg4 arg5 arg6 arg7 arg8 arg9 arg10 arg11 arg12 h) (ok_of_pieces c ⟨w1M.view.junk, w2M.view.junk, w3M.view.junk, w4M.view.junk⟩ (h.vals c arg2 arg3 arg4 arg5 arg6 arg7 arg8 arg9 arg10 arg11 arg12)).h1 (ok_of_pieces c ⟨w1M.view.junk, w2M.view.junk, w3M.view.junk, w4M.view.junk⟩ (h.vals c arg2 arg3 arg4 arg5 arg6 arg7 arg8 arg9 arg10 arg11 arg12)).h2 (ok_of_pieces c ⟨w1M.view.junk, w2M.view.junk, w3M.view.junk, w4M.view.junk⟩ (h.vals c arg2 arg3 arg4 arg5 arg6 arg7 arg8 arg9 arg10 arg11 arg12)).h3 (ok_of_pieces c ⟨w1M.view.junk, w2M.view.junk, w3M.view.junk, w4M.view.junk⟩ (h.vals c arg2 arg3 arg4 arg5 arg6 arg7 arg8 arg9 arg10 arg11 arg12)).h4
        (run0.sl.r_21 c X arg2 arg3 arg4 arg5 arg6 arg7 arg8 arg9 arg10 arg11 arg12 h) (run0.sl.v19 c X) (run0.sl.v22 c X) (run0.sl.v25 c X) (run0.sl.v28 c X) rfl rfl rfl rfl rfl
  iexists _; iexact HW

/-- The second point: its block of points has been in flight since the first; it starts fetching the next and sends its own results. -/
theorem run1 (h1 : ¬ k0_cond1 i = 1#1) (h2 : k0_cond2 i = 1#1) (h3 : ¬ k0_cond3 i = 1#1) (h4 : ¬ k0_cond4 i = 1#1)
    (h : Held (F := F) c arg2 arg3 arg4 arg5 arg6 arg7 arg8 arg9 arg10 arg11 arg12) (k : Scr (F := F) c) (hk : k.Ok c (h.vals c arg2 arg3 arg4 arg5 arg6 arg7 arg8 arg9 arg10 arg11 arg12)) (f0 f1 fo) (Q : PUnit → sProp 𝕄) :
    iprop(heldP c arg2 arg3 arg4 arg5 arg6 arg7 arg8 arg9 arg10 arg11 arg12 h ∗ scrP c k ∗ xflight c X (Ring.sl 2 (pt i)) (Ring.bk 8 (pt i)) f0 ∗ xblkP c X (Ring.bk 8 (pt i + 1)) ∗ xslotP c (Ring.sl 2 (pt i + 1)) f1 ∗ cellIn c (Ring.sl 2 (pt i + 1)) ∗ oslotP c (Ring.sl 2 (pt i)) fo ∗ cellOut c (Ring.sl 2 (pt i)) ∗ oblkP c O (Ring.bk 8 (pt i))
      ∗ (∃ W, owes (c : Thread nD τ) 0 W)
      ∗ ((heldP c arg2 arg3 arg4 arg5 arg6 arg7 arg8 arg9 arg10 arg11 arg12 h ∗ scrP c k ∗ xblkP c X (Ring.bk 8 (pt i)) ∗ xslotP c (Ring.sl 2 (pt i)) (xlanded c X (Ring.sl 2 (pt i)) (Ring.bk 8 (pt i)) f0) ∗ cellIn c (Ring.sl 2 (pt i)) ∗ xflight c X (Ring.sl 2 (pt i + 1)) (Ring.bk 8 (pt i + 1)) f1 ∗ (∃ G fo, ⌜G = tile (h.vals c arg2 arg3 arg4 arg5 arg6 arg7 arg8 arg9 arg10 arg11 arg12) (xval c X (Ring.bk 8 (pt i)))⌝ ∗ oflight c O (Ring.sl 2 (pt i)) (Ring.bk 8 (pt i)) G fo) ∗ (∃ W, owes (c : Thread nD τ) 0 W)) -∗ Q ⟨⟩))
    ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12) Q := by
  simp only [bodyG, cc0__mlp_encode_kernel_eq_skeleton]; unfold cc0__mlp_encode_kernel_skel
  iintro ⟨⟨Hn, Hs, Ht, Hw1, Hb1, Hw2, Hb2, Hw3, Hb3, Hw4, Hb4⟩, ⟨Hk1, Hk2, Hk3, Hk4⟩, Hxf, Hxb, Hxs, Hci, Hos, Hco, Hob, ⟨%W, HW⟩, Hk⟩
  sl_exec
  sl_step
  iapply Hk
  isplitl [Hn Hs Ht Hw1 Hb1 Hw2 Hb2 Hw3 Hb3 Hw4 Hb4]; · unfold heldP; iframe
  isplitl [Hk1 Hk2 Hk3 Hk4]; · unfold scrP; iframe
  isplitl [Hxf_src]; · iexact Hxf_src
  isplitl [Hxf_dst]; · iexact Hxf_dst
  isplitl [Hxf]; · iexact Hxf
  isplitl [Hci]; · iexact Hci
  isplitl [Hco]
  · iexists _, _
    isplitr
    swap
    · iexact Hco
    · ipureintro
      unfold run1.sl.dma36 run1.sl.Hos_4
      exact tile_landed c (h.vals c arg2 arg3 arg4 arg5 arg6 arg7 arg8 arg9 arg10 arg11 arg12) (Ring.sl 2 (pt i)) (Ring.sl 2 (pt i)) (xval c X (Ring.bk 8 (pt i))) fo _ _ _ _ hk.h1 hk.h2 hk.h3 hk.h4
        (run1.sl.r_21 c X i arg2 arg3 arg4 arg5 arg6 arg7 arg8 arg9 arg10 arg11 arg12 h k) (run1.sl.v19 c X i) (run1.sl.v22 c X i) (run1.sl.v25 c X i) (run1.sl.v28 c X i) rfl rfl rfl rfl rfl
  iexists _; iexact HW

/-- A middle point: besides, it waits for the results sent two points ago before it overwrites their slot. -/
theorem runM (h1 : ¬ k0_cond1 i = 1#1) (h2 : k0_cond2 i = 1#1) (h3 : k0_cond3 i = 1#1) (h4 : ¬ k0_cond4 i = 1#1)
    (h : Held (F := F) c arg2 arg3 arg4 arg5 arg6 arg7 arg8 arg9 arg10 arg11 arg12) (k : Scr (F := F) c) (hk : k.Ok c (h.vals c arg2 arg3 arg4 arg5 arg6 arg7 arg8 arg9 arg10 arg11 arg12)) (f0 f1 fo) (G : S2048x3.Idx → Elt F .f32) (Q : PUnit → sProp 𝕄) :
    iprop(heldP c arg2 arg3 arg4 arg5 arg6 arg7 arg8 arg9 arg10 arg11 arg12 h ∗ scrP c k ∗ xflight c X (Ring.sl 2 (pt i)) (Ring.bk 8 (pt i)) f0 ∗ xblkP c X (Ring.bk 8 (pt i + 1)) ∗ xslotP c (Ring.sl 2 (pt i + 1)) f1 ∗ cellIn c (Ring.sl 2 (pt i + 1)) ∗ oflight c O (Ring.sl 2 (pt i)) (Ring.bk 8 (pt i - 2)) G fo ∗ oblkP c O (Ring.bk 8 (pt i))
      ∗ (∃ W, owes (c : Thread nD τ) 0 W)
      ∗ ((heldP c arg2 arg3 arg4 arg5 arg6 arg7 arg8 arg9 arg10 arg11 arg12 h ∗ scrP c k ∗ xblkP c X (Ring.bk 8 (pt i)) ∗ xslotP c (Ring.sl 2 (pt i)) (xlanded c X (Ring.sl 2 (pt i)) (Ring.bk 8 (pt i)) f0) ∗ cellIn c (Ring.sl 2 (pt i)) ∗ xflight c X (Ring.sl 2 (pt i + 1)) (Ring.bk 8 (pt i + 1)) f1 ∗ ((oblk (Ring.bk 8 (pt i - 2))).view.loc (c : Thread nD τ) ↦[(oblk (Ring.bk 8 (pt i - 2))).view.set]{fullShare} (oblk (Ring.bk 8 (pt i - 2))).view.writes (Elt F) O [⟨Rect.whole S2048x3, G⟩]) ∗ (∃ G fo, ⌜G = tile (h.vals c arg2 arg3 arg4 arg5 arg6 arg7 arg8 arg9 arg10 arg11 arg12) (xval c X (Ring.bk 8 (pt i)))⌝ ∗ oflight c O (Ring.sl 2 (pt i)) (Ring.bk 8 (pt i)) G fo) ∗ (∃ W, owes (c : Thread nD τ) 0 W)) -∗ Q ⟨⟩))
    ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12) Q := by
  simp only [bodyG, cc0__mlp_encode_kernel_eq_skeleton]; unfold cc0__mlp_encode_kernel_skel
  iintro ⟨⟨Hn, Hs, Ht, Hw1, Hb1, Hw2, Hb2, Hw3, Hb3, Hw4, Hb4⟩, ⟨Hk1, Hk2, Hk3, Hk4⟩, Hxf, Hxb, Hxs, Hci, Hof, Hob, ⟨%W, HW⟩, Hk⟩
  sl_exec
  sl_step
  iapply Hk
  isplitl [Hn Hs Ht Hw1 Hb1 Hw2 Hb2 Hw3 Hb3 Hw4 Hb4]; · unfold heldP; iframe
  isplitl [Hk1 Hk2 Hk3 Hk4]; · unfold scrP; iframe
  isplitl [Hxf_src]; · iexact Hxf_src
  isplitl [Hxf_dst]; · iexact Hxf_dst
  isplitl [Hxf]; · iexact Hxf
  isplitl [Hci]; · iexact Hci
  isplitl [Hof_dst]; · iexact Hof_dst
  isplitl [Hof]
  · iexists _, _
    isplitr
    swap
    · iexact Hof
    · ipureintro
      unfold runM.sl.dma36 runM.sl.Hof_src_4
      exact tile_landed c (h.vals c arg2 arg3 arg4 arg5 arg6 arg7 arg8 arg9 arg10 arg11 arg12) (Ring.sl 2 (pt i)) (Ring.sl 2 (pt i)) (xval c X (Ring.bk 8 (pt i))) fo _ _ _ _ hk.h1 hk.h2 hk.h3 hk.h4
        (runM.sl.r_21 c X i arg2 arg3 arg4 arg5 arg6 arg7 arg8 arg9 arg10 arg11 arg12 h k) (runM.sl.v19 c X i) (runM.sl.v22 c X i) (runM.sl.v25 c X i) (runM.sl.v28 c X i) rfl rfl rfl rfl rfl
  iexists _; iexact HW

/-- The last point: nothing more to fetch; it waits for every result sent, its own included. -/
theorem run7 (h1 : ¬ k0_cond1 i = 1#1) (h2 : ¬ k0_cond2 i = 1#1) (h3 : k0_cond3 i = 1#1) (h4 : k0_cond4 i = 1#1)
    (h : Held (F := F) c arg2 arg3 arg4 arg5 arg6 arg7 arg8 arg9 arg10 arg11 arg12) (k : Scr (F := F) c) (hk : k.Ok c (h.vals c arg2 arg3 arg4 arg5 arg6 arg7 arg8 arg9 arg10 arg11 arg12)) (f0 fo fo') (G G' : S2048x3.Idx → Elt F .f32) (Q : PUnit → sProp 𝕄) :
    iprop(heldP c arg2 arg3 arg4 arg5 arg6 arg7 arg8 arg9 arg10 arg11 arg12 h ∗ scrP c k ∗ xflight c X (Ring.sl 2 (pt i)) (Ring.bk 8 (pt i)) f0 ∗ oflight c O (Ring.sl 2 (pt i)) (Ring.bk 8 (pt i - 2)) G fo ∗ oflight c O (Ring.sl 2 (pt i + 1)) (Ring.bk 8 (pt i - 1)) G' fo' ∗ oblkP c O (Ring.bk 8 (pt i))
      ∗ (∃ W, owes (c : Thread nD τ) 0 W)
      ∗ ((heldP c arg2 arg3 arg4 arg5 arg6 arg7 arg8 arg9 arg10 arg11 arg12 h ∗ scrP c k ∗ xblkP c X (Ring.bk 8 (pt i)) ∗ xslotP c (Ring.sl 2 (pt i)) (xlanded c X (Ring.sl 2 (pt i)) (Ring.bk 8 (pt i)) f0) ∗ cellIn c (Ring.sl 2 (pt i)) ∗ ((oblk (Ring.bk 8 (pt i - 2))).view.loc (c : Thread nD τ) ↦[(oblk (Ring.bk 8 (pt i - 2))).view.set]{fullShare} (oblk (Ring.bk 8 (pt i - 2))).view.writes (Elt F) O [⟨Rect.whole S2048x3, G⟩]) ∗ ((oblk (Ring.bk 8 (pt i - 1))).view.loc (c : Thread nD τ) ↦[(oblk (Ring.bk 8 (pt i - 1))).view.set]{fullShare} (oblk (Ring.bk 8 (pt i - 1))).view.writes (Elt F) O [⟨Rect.whole S2048x3, G'⟩]) ∗ (∃ f, oslotP c (Ring.sl 2 (pt i + 1)) f) ∗ cellOut c (Ring.sl 2 (pt i + 1)) ∗ (∃ f, oslotP c (Ring.sl 2 (pt i)) f) ∗ cellOut c (Ring.sl 2 (pt i)) ∗ (∃ G, ⌜G = tile (h.vals c arg2 arg3 arg4 arg5 arg6 arg7 arg8 arg9 arg10 arg11 arg12) (xval c X (Ring.bk 8 (pt i)))⌝ ∗ ((oblk (Ring.bk 8 (pt i))).view.loc (c : Thread nD τ) ↦[(oblk (Ring.bk 8 (pt i))).view.set]{fullShare} (oblk (Ring.bk 8 (pt i))).view.writes (Elt F) O [⟨Rect.whole S2048x3, G⟩])) ∗ (∃ W, owes (c : Thread nD τ) 0 W)) -∗ Q ⟨⟩))
    ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12) Q := by
  simp only [bodyG, cc0__mlp_encode_kernel_eq_skeleton]; unfold cc0__mlp_encode_kernel_skel
  iintro ⟨⟨Hn, Hs, Ht, Hw1, Hb1, Hw2, Hb2, Hw3, Hb3, Hw4, Hb4⟩, ⟨Hk1, Hk2, Hk3, Hk4⟩, Hxf, Hof, Hog, Hob, ⟨%W, HW⟩, Hk⟩
  sl_exec
  sl_step
  iapply Hk
  isplitl [Hn Hs Ht Hw1 Hb1 Hw2 Hb2 Hw3 Hb3 Hw4 Hb4]; · unfold heldP; iframe
  isplitl [Hk1 Hk2 Hk3 Hk4]; · unfold scrP; iframe
  isplitl [Hxf_src]; · iexact Hxf_src
  isplitl [Hxf_dst]; · iexact Hxf_dst
  isplitl [Hxf]; · iexact Hxf
  isplitl [Hof_dst]; · iexact Hof_dst
  isplitl [Hog_dst]; · iexact Hog_dst
  isplitl [Hog_src]; · iexists _; iexact Hog_src
  isplitl [Hog]; · iexact Hog
  isplitl [Hof_src]; · iexists _; iexact Hof_src
  isplitl [Hof]; · iexact Hof
  isplitl [Hob]
  · iexists _
    isplitr
    swap
    · iexact Hob
    · ipureintro
      unfold run7.sl.dma36 run7.sl.Hof_src_4
      exact tile_landed c (h.vals c arg2 arg3 arg4 arg5 arg6 arg7 arg8 arg9 arg10 arg11 arg12) (Ring.sl 2 (pt i)) (Ring.sl 2 (pt i)) (xval c X (Ring.bk 8 (pt i))) fo _ _ _ _ hk.h1 hk.h2 hk.h3 hk.h4
        (run7.sl.r_21 c X i arg2 arg3 arg4 arg5 arg6 arg7 arg8 arg9 arg10 arg11 arg12 h k) (run7.sl.v19 c X i) (run7.sl.v22 c X i) (run7.sl.v25 c X i) (run7.sl.v28 c X i) rfl rfl rfl rfl rfl
  iexists _; iexact HW

end Run

end Cert.Proof.Ring8

end
-- ==== Proof.Inv.lean ====
/-
  What is held between grid points.

  The array of points is its eight blocks and the result its eight blocks; each buffer of two slots is its two slots. Before
  point `t` one block of points is in flight (to slot `t mod 2`), the others are home; the results of the two points before
  are in flight, earlier blocks have landed, later ones are as they were at launch; from point 1 on the scratches hold the
  assembled weights.
-/
module

public import proofs.«01_k».proof.Proof.Body

@[expose] public section

set_option maxHeartbeats 1000000

noncomputable section

namespace Cert.Proof.Ring8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Element sets -/

abbrev Gx (b : Fin 8) : Finset S16384x2.Idx := (Rect.unit (s := S16384x2) (rowOff b) S2048x2.size (rowOff_x b)).set
abbrev Go (b : Fin 8) : Finset S16384x3.Idx := (Rect.unit (s := S16384x3) (rowOff b) S2048x3.size (rowOff_o b)).set
abbrev Sx (s : Fin 2) : Finset S2x2048x2.Idx := (Rect.unit (s := S2x2048x2) (slotOff s) S1x2048x2.size (slotOff_x s)).set
abbrev So (s : Fin 2) : Finset S2x2048x3.Idx := (Rect.unit (s := S2x2048x3) (slotOff s) S1x2048x3.size (slotOff_o s)).set

theorem xblk_set (b : Fin 8) : (xblk b).view.set = Gx b := View.set_slice_whole _ _
theorem oblk_set (b : Fin 8) : (oblk b).view.set = Go b := View.set_slice_whole _ _
theorem xslot_set (s : Fin 2) : (xslot s).view.set = Sx s := (View.set_reshape _ _).trans (View.set_slice_whole _ _)
theorem oslot_set (s : Fin 2) : (oslot s).view.set = So s := (View.set_reshape _ _).trans (View.set_slice_whole _ _)

theorem mem_Gx (b : Fin 8) (y : S16384x2.Idx) : y ∈ Gx b ↔ (y 0).val / 2048 = b.val := by
  rw [Rect.mem_set_unit]
  have h1 : (y 1).val < 2 := (y 1).isLt
  constructor
  · intro H; have a0 : 2048 * b.val ≤ (y 0).val ∧ (y 0).val < 2048 * b.val + 2048 := H 0; omega
  · intro H i; fin_cases i
    · show 2048 * b.val ≤ (y 0).val ∧ (y 0).val < 2048 * b.val + 2048; omega
    · show 0 ≤ (y 1).val ∧ (y 1).val < 0 + 2; omega
theorem mem_Go (b : Fin 8) (y : S16384x3.Idx) : y ∈ Go b ↔ (y 0).val / 2048 = b.val := by
  rw [Rect.mem_set_unit]
  have h1 : (y 1).val < 3 := (y 1).isLt
  constructor
  · intro H; have a0 : 2048 * b.val ≤ (y 0).val ∧ (y 0).val < 2048 * b.val + 2048 := H 0; omega
  · intro H i; fin_cases i
    · show 2048 * b.val ≤ (y 0).val ∧ (y 0).val < 2048 * b.val + 2048; omega
    · show 0 ≤ (y 1).val ∧ (y 1).val < 0 + 3; omega
theorem mem_Sx (s : Fin 2) (y : S2x2048x2.Idx) : y ∈ Sx s ↔ (y 0).val = s.val := by
  rw [Rect.mem_set_unit]
  have h1 : (y 1).val < 2048 := (y 1).isLt
  have h2 : (y 2).val < 2 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 2; omega
theorem mem_So (s : Fin 2) (y : S2x2048x3.Idx) : y ∈ So s ↔ (y 0).val = s.val := by
  rw [Rect.mem_set_unit]
  have h1 : (y 1).val < 2048 := (y 1).isLt
  have h2 : (y 2).val < 3 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 3; omega

/-- Sets told apart by a number of their members are disjoint; -/
theorem disjoint_of_key {α : Type} [DecidableEq α] {n : ℕ} (S : Fin n → Finset α) (key : α → ℕ) (h : ∀ b y, y ∈ S b ↔ key y = b.val) :
    ∀ b b', b ≠ b' → Disjoint (S b) (S b') := by
  intro b b' hne; rw [Finset.disjoint_left]; intro y hy hy'; rw [h] at hy hy'; exact hne (Fin.ext (hy.symm.trans hy'))
/-- and when the number is always in range they are everything. -/
theorem cover_of_key {α : Type} [DecidableEq α] [Fintype α] {n : ℕ} (S : Fin n → Finset α) (key : α → ℕ) (h : ∀ b y, y ∈ S b ↔ key y = b.val)
    (hk : ∀ y, key y < n) : Finset.univ.biUnion S = Finset.univ := by
  ext y; simp only [Finset.mem_biUnion, Finset.mem_univ, true_and, iff_true]; exact ⟨⟨key y, hk y⟩, (h _ y).2 rfl⟩

theorem row_x (y : S16384x2.Idx) : (y 0).val / 2048 < 8 := by have : (y 0).val < 16384 := (y 0).isLt; omega
theorem row_o (y : S16384x3.Idx) : (y 0).val / 2048 < 8 := by have : (y 0).val < 16384 := (y 0).isLt; omega
theorem slot_x (y : S2x2048x2.Idx) : (y 0).val < 2 := (y 0).isLt
theorem slot_o (y : S2x2048x3.Idx) : (y 0).val < 2 := (y 0).isLt

section Split
variable (c : Dev nD)

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The array of points is its eight blocks; -/
theorem x_eq (X : XBuf (F := F) c) :
    (((c : Thread nD τ).loc main_arg0) ↦{fullShare} X : sProp 𝕄) = bigSep (Ring.rangeSet 8 0 8) (xblkP c X) := by
  rw [Ring.rangeSet_univ, Ring.pointsTo_blocks (ℓ := (c : Thread nD τ).loc main_arg0) Gx (disjoint_of_key Gx _ mem_Gx) (cover_of_key Gx _ mem_Gx row_x)]
  exact bigSep_congr fun b _ => by rw [← xblk_set]; rfl
/-- and the result's array its eight. -/
theorem o_eq (O : OBuf (F := F) c) :
    (((c : Thread nD τ).loc main_v5) ↦{fullShare} O : sProp 𝕄) = bigSep (Ring.rangeSet 8 0 8) (oblkP c O) := by
  rw [Ring.rangeSet_univ, Ring.pointsTo_blocks (ℓ := (c : Thread nD τ).loc main_v5) Go (disjoint_of_key Go _ mem_Go) (cover_of_key Go _ mem_Go row_o)]
  exact bigSep_congr fun b _ => by rw [← oblk_set]; rfl

omit [FloatOps F] in
theorem xslotP_eq (s : Fin 2) (f) : xslotP c s f = (((c : Thread nD τ).loc cc0_scratch0) ↦[Sx s]{fullShare} f : sProp 𝕄) :=
  congrArg (fun S => (_ ↦[S]{fullShare} f : sProp 𝕄)) (xslot_set s)
omit [FloatOps F] in
theorem oslotP_eq (s : Fin 2) (f) : oslotP c s f = (((c : Thread nD τ).loc cc0_scratch1) ↦[So s]{fullShare} f : sProp 𝕄) :=
  congrArg (fun S => (_ ↦[S]{fullShare} f : sProp 𝕄)) (oslot_set s)

/-- Each buffer of two slots is its two slots, and back. -/
theorem xbuf_split :
    iprop(∃ f : Buf (Elt F) ((c : Thread nD τ).loc cc0_scratch0), ((c : Thread nD τ).loc cc0_scratch0) ↦{fullShare} f)
      ⊢ (iprop((∃ f, xslotP c 0 f) ∗ ∃ f, xslotP c 1 f) : sProp 𝕄) :=
  Ring.slots2_split (U := UU nD τ) (ℓ := (c : Thread nD τ).loc cc0_scratch0) (q := fullShare) Sx (disjoint_of_key Sx _ mem_Sx) (cover_of_key Sx _ mem_Sx slot_x)
    (fun f => xslotP c 0 f) (fun f => xslotP c 1 f) (xslotP_eq c 0) (xslotP_eq c 1)
theorem xbuf_join :
    iprop((∃ f, xslotP c 0 f) ∗ ∃ f, xslotP c 1 f)
      ⊢ (iprop(∃ f : Buf (Elt F) ((c : Thread nD τ).loc cc0_scratch0), ((c : Thread nD τ).loc cc0_scratch0) ↦{fullShare} f) : sProp 𝕄) :=
  Ring.slots2_join (U := UU nD τ) (ℓ := (c : Thread nD τ).loc cc0_scratch0) (q := fullShare) Sx (disjoint_of_key Sx _ mem_Sx) (cover_of_key Sx _ mem_Sx slot_x)
    (fun f => xslotP c 0 f) (fun f => xslotP c 1 f) (xslotP_eq c 0) (xslotP_eq c 1)
theorem obuf_split :
    iprop(∃ f : Buf (Elt F) ((c : Thread nD τ).loc cc0_scratch1), ((c : Thread nD τ).loc cc0_scratch1) ↦{fullShare} f)
      ⊢ (iprop((∃ f, oslotP c 0 f) ∗ ∃ f, oslotP c 1 f) : sProp 𝕄) :=
  Ring.slots2_split (U := UU nD τ) (ℓ := (c : Thread nD τ).loc cc0_scratch1) (q := fullShare) So (disjoint_of_key So _ mem_So) (cover_of_key So _ mem_So slot_o)
    (fun f => oslotP c 0 f) (fun f => oslotP c 1 f) (oslotP_eq c 0) (oslotP_eq c 1)
theorem obuf_join :
    iprop((∃ f, oslotP c 0 f) ∗ ∃ f, oslotP c 1 f)
      ⊢ (iprop(∃ f : Buf (Elt F) ((c : Thread nD τ).loc cc0_scratch1), ((c : Thread nD τ).loc cc0_scratch1) ↦{fullShare} f) : sProp 𝕄) :=
  Ring.slots2_join (U := UU nD τ) (ℓ := (c : Thread nD τ).loc cc0_scratch1) (q := fullShare) So (disjoint_of_key So _ mem_So) (cover_of_key So _ mem_So slot_o)
    (fun f => oslotP c 0 f) (fun f => oslotP c 1 f) (oslotP_eq c 0) (oslotP_eq c 1)

end Split

/-! ## The result -/

/-- The result's array: block `y₀ / 2048`'s tile at row `y₀ mod 2048`. -/
def outArr (c : Dev nD) (X : XBuf (F := F) c) (v : Vals F) : OBuf (F := F) c := fun (y : S16384x3.Idx) =>
  tile v (xval c X ⟨(y 0).val / 2048, row_o y⟩) (ValueIdx.ix2 (⟨(y 0).val % 2048, Nat.mod_lt _ (by decide)⟩ : Fin 2048) (y 1))

theorem outArr_at (c : Dev nD) (X : XBuf (F := F) c) (v : Vals F) (b : Fin 8) (j : S2048x3.Idx) (y : S16384x3.Idx)
    (h0 : (y 0).val = 2048 * b.val + (j 0).val) (h1 : y 1 = j 1) : outArr c X v y = tile v (xval c X b) j := by
  have hj : (j 0).val < 2048 := (j 0).isLt
  unfold outArr
  have hb : (⟨(y 0).val / 2048, row_o y⟩ : Fin 8) = b := Fin.ext (by show _ / 2048 = b.val; rw [h0]; omega)
  have hr : (⟨(y 0).val % 2048, Nat.mod_lt _ (by decide)⟩ : Fin 2048) = j 0 := Fin.ext (by show _ % 2048 = (j 0).val; rw [h0]; omega)
  rw [hb, hr, h1]
  exact congrArg (tile v (xval c X b)) (ValueIdx.eq_ix2 j).symm

/-- Where block `b`'s element `j` lies. -/
def oat (b : Fin 8) (j : S2048x3.Idx) : S16384x3.Idx := (oblk b).view.emb j
theorem oat_0 (b : Fin 8) (j : S2048x3.Idx) : (oat b j 0).val = 2048 * b.val + (j 0).val := by
  show 2048 * b.val + 1 * (j 0).val = _; omega
theorem oat_1 (b : Fin 8) (j : S2048x3.Idx) : oat b j 1 = j 1 := Fin.ext (by show 0 + 1 * (j 1).val = (j 1).val; omega)
theorem outArr_emb (c : Dev nD) (X : XBuf (F := F) c) (v : Vals F) (b : Fin 8) (j : S2048x3.Idx) :
    outArr c X v (oat b j) = tile v (xval c X b) j := outArr_at c X v b j _ (oat_0 b j) (oat_1 b j)

/-- A block of the result that has landed. -/
abbrev landedP (c : Dev nD) (O : OBuf (F := F) c) (b : Fin 8) (G : S2048x3.Idx → Elt F .f32) : sProp 𝕄 :=
  (oblk b).view.loc (c : Thread nD τ) ↦[(oblk b).view.set]{fullShare} (oblk b).view.writes (Elt F) O [⟨Rect.whole S2048x3, G⟩]

omit [FloatOps F] in
theorem oblk_read (c : Dev nD) (b : Fin 8) (W : OBuf (F := F) c) (j : S2048x3.Idx) : (oblk b).view.read (Elt F) W j = W (oat b j) := rfl

omit [FloatOps F] in
/-- Two contents that read alike through a block are held alike on it. -/
theorem oblkP_congr (c : Dev nD) (b : Fin 8) (W A : OBuf (F := F) c) (h : ∀ j, W (oat b j) = A (oat b j)) :
    (oblkP c W b : sProp 𝕄) = oblkP c A b := by
  refine pointsTo_congr fun y hy => ?_
  obtain ⟨j, -, rfl⟩ := Finset.mem_map.1 hy
  exact h j

/-- Once landed, a block is the result's array's block. -/
theorem landed_eq (c : Dev nD) (X : XBuf (F := F) c) (O : OBuf (F := F) c) (v : Vals F) (b : Fin 8) (G : S2048x3.Idx → Elt F .f32)
    (hG : G = tile v (xval c X b)) : (landedP c O b G : sProp 𝕄) = oblkP c (outArr c X v) b := by
  have e := View.read_writes_whole (oblk b).view O G
  unfold landedP
  generalize (oblk b).view.writes (Elt F) O [⟨Rect.whole S2048x3, G⟩] = W at e ⊢
  refine oblkP_congr c b W _ fun j => ?_
  rw [outArr_emb, ← hG, ← e]
  exact (oblk_read c b W j).symm

/-! ## The invariant -/

section Inv
variable (c : Dev nD) (X : XBuf (F := F) c) (O : OBuf (F := F) c) (v : Vals F)

/-- The points before grid point `t`. -/
def xHome : sProp 𝕄 :=
  iprop(bigSep (Ring.rangeSet 8 0 8) (xblkP c X) ∗ (∃ f, xslotP c 0 f) ∗ (∃ f, xslotP c 1 f) ∗ cellIn c 0 ∗ cellIn c 1)
def xRun (t : ℕ) : sProp 𝕄 :=
  iprop(bigSep (Ring.rangeSet 8 0 t) (xblkP c X) ∗ bigSep (Ring.rangeSet 8 (t + 1) 8) (xblkP c X)
    ∗ (∃ f, xflight c X (Ring.sl 2 t) (Ring.bk 8 t) f) ∗ (∃ f, xslotP c (Ring.sl 2 (t + 1)) f) ∗ cellIn c (Ring.sl 2 (t + 1)))
/-- A block of results in flight. -/
def oSent (s : Fin 2) (b : Fin 8) : sProp 𝕄 := iprop(∃ G fo, ⌜G = tile v (xval c X b)⌝ ∗ oflight c O s b G fo)
/-- The results before grid point `t`: all as `O'` with the slots free; point 1; the later ones. -/
def oHome (O' : OBuf (F := F) c) : sProp 𝕄 :=
  iprop(bigSep (Ring.rangeSet 8 0 8) (oblkP c O') ∗ (∃ f, oslotP c 0 f) ∗ (∃ f, oslotP c 1 f) ∗ cellOut c 0 ∗ cellOut c 1)
def oOne : sProp 𝕄 :=
  iprop(bigSep (Ring.rangeSet 8 1 8) (oblkP c O) ∗ oSent c X O v 0 0 ∗ (∃ f, oslotP c 1 f) ∗ cellOut c 1)
def oRun (t : ℕ) : sProp 𝕄 :=
  iprop(bigSep (Ring.rangeSet 8 0 (t - 2)) (oblkP c (outArr c X v)) ∗ bigSep (Ring.rangeSet 8 t 8) (oblkP c O)
    ∗ oSent c X O v (Ring.sl 2 t) (Ring.bk 8 (t - 2)) ∗ oSent c X O v (Ring.sl 2 (t + 1)) (Ring.bk 8 (t - 1)))
/-- The scratches holding the assembled weights. -/
def wOk : sProp 𝕄 := iprop(∃ k, ⌜Scr.Ok c k v⌝ ∗ scrP c k)

/-- What is held before grid point `t` (after the last one, `t = 8`). -/
def Inv : ℕ → sProp 𝕄
  | 0 => iprop(xHome c X ∗ oHome c O ∗ ∃ k, scrP c k)
  | 1 => iprop(xRun c X 1 ∗ oOne c X O v ∗ wOk c v)
  | 8 => iprop(xHome c X ∗ oHome c (outArr c X v) ∗ wOk c v)
  | t => iprop(xRun c X t ∗ oRun c X O v t ∗ wOk c v)

theorem Inv_mid (t : ℕ) (h2 : 2 ≤ t) (h7 : t ≤ 7) : Inv c X O v t = iprop(xRun c X t ∗ oRun c X O v t ∗ wOk c v) := by
  obtain rfl | rfl | rfl | rfl | rfl | rfl : t = 2 ∨ t = 3 ∨ t = 4 ∨ t = 5 ∨ t = 6 ∨ t = 7 := by omega
  all_goals rfl

end Inv

end Cert.Proof.Ring8

end
-- ==== Proof.Step.lean ====
/-
  One grid point, from the invariant before it to the invariant after it.
-/
module

public import proofs.«01_k».proof.Proof.Inv

@[expose] public section

set_option maxHeartbeats 1000000

noncomputable section

namespace Cert.Proof.Ring8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Blocks

omit [FloatOps F] in
/-- Equal assertions entail each other. -/
theorem of_eq {P Q : sProp 𝕄} (e : P = Q) : P ⊢ Q := e ▸ .rfl

omit [FloatOps F] in
/-- A run of blocks is its first and the rest; -/
theorem take_bk (Φ : Fin 8 → sProp 𝕄) {t : ℕ} (h : t < 8) : bigSep (Ring.rangeSet 8 t 8) Φ = iprop(Φ (Ring.bk 8 t) ∗ bigSep (Ring.rangeSet 8 (t + 1) 8) Φ) := by
  rw [Ring.bigSep_rangeSet_head h h, show Ring.bk 8 t = ⟨t, h⟩ from Fin.ext (Ring.bk_val h)]
omit [FloatOps F] in
/-- the blocks before `t + 1` are block `t` and those before it. -/
theorem add_bk (Φ : Fin 8 → sProp 𝕄) {t : ℕ} (h : t < 8) : bigSep (Ring.rangeSet 8 0 (t + 1)) Φ = iprop(Φ (Ring.bk 8 t) ∗ bigSep (Ring.rangeSet 8 0 t) Φ) := by
  rw [Ring.bigSep_rangeSet_last (Nat.succ_pos t) h, show Ring.bk 8 t = ⟨t + 1 - 1, by omega⟩ from Fin.ext (Ring.bk_val h)]
  rfl
omit [FloatOps F] in
theorem none_bk (Φ : Fin 8 → sProp 𝕄) : bigSep (Ring.rangeSet 8 0 0) Φ = (iprop(emp) : sProp 𝕄) := Ring.bigSep_rangeSet_empty le_rfl
omit [FloatOps F] in
theorem first_bk (Φ : Fin 8 → sProp 𝕄) : bigSep (Ring.rangeSet 8 0 1) Φ = Φ 0 := by
  rw [add_bk Φ (t := 0) (by decide), none_bk]; exact BI.equiv_iff.mp BI.sep_emp
omit [FloatOps F] in
theorem done_bk (Φ : Fin 8 → sProp 𝕄) : bigSep (Ring.rangeSet 8 8 8) Φ = (iprop(emp) : sProp 𝕄) := Ring.bigSep_rangeSet_empty le_rfl

end Blocks

section Step
variable (c : Dev nD) (X : XBuf (F := F) c) (O : OBuf (F := F) c) (i : grid0.Coords)
variable (arg2 : Memref sig .tc .vmem S1x128 .f32) (harg2 : arg2.IsWhole) (arg3 : Memref sig .tc .vmem S8x256 .f32) (harg3 : arg3.IsWhole)
  (arg4 : Memref sig .tc .smem S2x4x2 .f32) (harg4 : arg4.IsWhole) (arg5 : Memref sig .tc .vmem S64x32 .f32) (harg5 : arg5.IsWhole)
  (arg6 : Memref sig .tc .vmem S1x64 .f32) (harg6 : arg6.IsWhole) (arg7 : Memref sig .tc .vmem S64x64 .f32) (harg7 : arg7.IsWhole)
  (arg8 : Memref sig .tc .vmem S1x64 .f32) (harg8 : arg8.IsWhole) (arg9 : Memref sig .tc .vmem S64x64 .f32) (harg9 : arg9.IsWhole)
  (arg10 : Memref sig .tc .vmem S1x64 .f32) (harg10 : arg10.IsWhole) (arg11 : Memref sig .tc .vmem S3x64 .f32) (harg11 : arg11.IsWhole)
  (arg12 : Memref sig .tc .vmem S1x3 .f32) (harg12 : arg12.IsWhole)

theorem Inv_zero (v : Vals F) : Inv c X O v 0 = iprop(xHome c X ∗ oHome c O ∗ ∃ k, scrP c k) := rfl
theorem Inv_one (v : Vals F) : Inv c X O v 1 = iprop(xRun c X 1 ∗ oOne c X O v ∗ wOk c v) := rfl
theorem Inv_eight (v : Vals F) : Inv c X O v 8 = iprop(xHome c X ∗ oHome c (outArr c X v) ∗ wOk c v) := rfl

/-- The first point. -/
theorem step0 (h0 : pt i = 0) (h : Held (F := F) c arg2 arg3 arg4 arg5 arg6 arg7 arg8 arg9 arg10 arg11 arg12) (Q : PUnit → sProp 𝕄) :
    iprop(heldP c arg2 arg3 arg4 arg5 arg6 arg7 arg8 arg9 arg10 arg11 arg12 h ∗ Inv c X O (h.vals c arg2 arg3 arg4 arg5 arg6 arg7 arg8 arg9 arg10 arg11 arg12) (pt i) ∗ (∃ W, owes (c : Thread nD τ) 0 W)
      ∗ ((heldP c arg2 arg3 arg4 arg5 arg6 arg7 arg8 arg9 arg10 arg11 arg12 h ∗ Inv c X O (h.vals c arg2 arg3 arg4 arg5 arg6 arg7 arg8 arg9 arg10 arg11 arg12) (pt i + 1) ∗ (∃ W, owes (c : Thread nD τ) 0 W)) -∗ Q ⟨⟩))
    ⊢ wp Idealize.ShloMosaic.frame (wpE (defs₀ (F := F)) 𝒱₀ (c : Thread nD τ) none) Set.univ (bodyG i arg2 harg2 arg3 harg3 arg4 harg4 arg5 harg5 arg6 harg6 arg7 harg7 arg8 harg8 arg9 harg9 arg10 harg10 arg11 harg11 arg12 harg12) Q := by
  rw [h0, Inv_zero, Inv_one]
  unfold xHome oHome
  rw [take_bk (xblkP c X) (t := 0) (by decide), take_bk (xblkP c X) (t := 0 + 1) (by decide), take_bk (oblkP c O) (t := 0) (by decide)]
  iintro ⟨Hh, ⟨⟨⟨Hx0, Hx1, Hx⟩, ⟨%f0, Hs0⟩, ⟨%f1, Hs1⟩, Hc0, Hc1⟩, ⟨⟨Hb0, Hb⟩, ⟨%g0, Ho0⟩, Ho1, Hd0, Hd1⟩, ⟨%k, Hk⟩⟩, HW, HQ⟩
  iapply (run0 c X O i arg2 harg2 arg3 harg3 arg4 harg4 arg5 harg5 arg6 harg6 arg7 harg7 arg8 harg8 arg9 harg9 arg10 harg10 arg11 harg11 arg12 harg12 ((cond1_iff i).2 h0) ((cond2_iff i).2 (by omega)) (mt (cond3_iff i).1 (by omega)) (mt (cond4_iff i).1 (by omega)) h k f0 f1 g0 Q)
  isplitl [Hh]; · iexact Hh
  isplitl [Hk]; · iexact Hk
  isplitl [Hx0]; · iexact Hx0
  isplitl [Hx1]; · iexact Hx1
  isplitl [Hs0]; · iexact Hs0
  isplitl [Hs1]; · iexact Hs1
  isplitl [Hc0]; · iexact Hc0
  isplitl [Hc1]; · iexact Hc1
  isplitl [Ho0]; · iexact Ho0
  isplitl [Hd0]; · iexact Hd0
  isplitl [Hb0]; · iexact Hb0
  isplitl [HW]; · iexact HW
  iintro ⟨Hh, Hk, Hx0, Hs0, Hc0, Hf1, Hof, HW⟩
  iapply HQ
  isplitl [Hh]; · iexact Hh
  isplitr [HW]
  · isplitl [Hx0 Hx Hs0 Hc0 Hf1]
    · unfold xRun
      isplitl [Hx0]; · iapply (of_eq (first_bk (xblkP c X)).symm); iexact Hx0
      isplitl [Hx]; · iexact Hx
      isplitl [Hf1]; · iexists f1; iexact Hf1
      isplitl [Hs0]; · iexists _; iexact Hs0
      iexact Hc0
    isplitl [Hb Hof Ho1 Hd1]
    · unfold oOne oSent
      isplitl [Hb]; · iexact Hb
      isplitl [Hof]; · iexact Hof
      isplitl [Ho1]; · iexact Ho1
      iexact Hd1
    unfold wOk; iexact Hk
  iexact HW

/-- The second point. -/
theorem step1 (h0 : pt i = 1) (h : Held (F := F) c arg2 arg3 arg4 arg5 arg6 arg7 arg8 arg9 arg10 arg11 arg12) (Q : PUnit → sProp 𝕄) :
    iprop(heldP c arg2 arg3 arg4 arg5 arg6 arg7 arg8 arg9 arg10 arg11 arg12 h ∗ Inv c X O (h.vals c arg2 arg3 arg4 arg5 arg6 arg7 arg8 arg9 arg10 arg11 arg12) (pt i) ∗ (∃ W, owes (c : Thread nD τ) 0 W)
      ∗ ((heldP c arg2 arg3 arg4 arg5 arg6 arg7 arg8 arg9 arg10 arg11 arg12 h ∗ Inv c X O (h.vals c arg2 arg3 arg4 arg5 arg6 arg7 arg8 arg9 arg10 arg11 arg12) (pt i + 1) ∗ (∃ W, owes (c : Thread nD τ) 0 W)) -∗ Q ⟨⟩))
    ⊢ wp Idealize.ShloMosaic.frame (wpE (defs₀ (F := F)) 𝒱₀ (c : Thread nD τ) none) Set.univ (bodyG i arg2 harg2 arg3 harg3 arg4 harg4 arg5 harg5 arg6 harg6 arg7 harg7 arg8 harg8 arg9 harg9 arg10 harg10 arg11 harg11 arg12 harg12) Q := by
  have R := fun k hk f0 f1 fo => run1 c X O i arg2 harg2 arg3 harg3 arg4 harg4 arg5 harg5 arg6 harg6 arg7 harg7 arg8 harg8 arg9 harg9 arg10 harg10 arg11 harg11 arg12 harg12 (mt (cond1_iff i).1 (by omega)) ((cond2_iff i).2 (by omega)) (mt (cond3_iff i).1 (by omega)) (mt (cond4_iff i).1 (by omega)) h k hk f0 f1 fo Q
  rw [h0, Inv_one, Inv_mid c X O _ (1 + 1) (by decide) (by decide)]
  rw [h0] at R
  unfold xRun oOne wOk
  rw [take_bk (xblkP c X) (t := 1 + 1) (by decide), take_bk (oblkP c O) (t := 1) (by decide), add_bk (xblkP c X) (t := 1) (by decide)]
  iintro ⟨Hh, ⟨⟨Hxd, ⟨Hx1, Hx⟩, ⟨%f0, Hf⟩, ⟨%f1, Hs1⟩, Hc1⟩, ⟨⟨Hb0, Hb⟩, Hoq, ⟨%g0, Ho0⟩, Hd0⟩, ⟨%k, %hk, Hk⟩⟩, HW, HQ⟩
  iapply (R k hk f0 f1 g0)
  isplitl [Hh]; · iexact Hh
  isplitl [Hk]; · iexact Hk
  isplitl [Hf]; · iexact Hf
  isplitl [Hx1]; · iexact Hx1
  isplitl [Hs1]; · iexact Hs1
  isplitl [Hc1]; · iexact Hc1
  isplitl [Ho0]; · iexact Ho0
  isplitl [Hd0]; · iexact Hd0
  isplitl [Hb0]; · iexact Hb0
  isplitl [HW]; · iexact HW
  iintro ⟨Hh, Hk, Hx0, Hs0, Hc0, Hf1, Hof, HW⟩
  iapply HQ
  isplitl [Hh]; · iexact Hh
  isplitr [HW]
  · isplitl [Hx0 Hxd Hx Hs0 Hc0 Hf1]
    · isplitl [Hx0 Hxd]
      · isplitl [Hx0]; · iexact Hx0
        iexact Hxd
      isplitl [Hx]; · iexact Hx
      isplitl [Hf1]; · iexists f1; iexact Hf1
      isplitl [Hs0]; · iexists _; iexact Hs0
      iexact Hc0
    isplitl [Hb Hof Hoq]
    · unfold oRun
      isplitr; · iapply (of_eq (none_bk (oblkP c (outArr c X (h.vals c arg2 arg3 arg4 arg5 arg6 arg7 arg8 arg9 arg10 arg11 arg12)))).symm); iempintro
      isplitl [Hb]; · iexact Hb
      isplitl [Hoq]; · iexact Hoq
      unfold oSent; iexact Hof
    iexists k
    isplitr; · ipureintro; exact hk
    iexact Hk
  iexact HW

/-- A middle point. -/
theorem stepM (h2 : 2 ≤ pt i) (h6 : pt i ≤ 6) (h : Held (F := F) c arg2 arg3 arg4 arg5 arg6 arg7 arg8 arg9 arg10 arg11 arg12) (Q : PUnit → sProp 𝕄) :
    iprop(heldP c arg2 arg3 arg4 arg5 arg6 arg7 arg8 arg9 arg10 arg11 arg12 h ∗ Inv c X O (h.vals c arg2 arg3 arg4 arg5 arg6 arg7 arg8 arg9 arg10 arg11 arg12) (pt i) ∗ (∃ W, owes (c : Thread nD τ) 0 W)
      ∗ ((heldP c arg2 arg3 arg4 arg5 arg6 arg7 arg8 arg9 arg10 arg11 arg12 h ∗ Inv c X O (h.vals c arg2 arg3 arg4 arg5 arg6 arg7 arg8 arg9 arg10 arg11 arg12) (pt i + 1) ∗ (∃ W, owes (c : Thread nD τ) 0 W)) -∗ Q ⟨⟩))
    ⊢ wp Idealize.ShloMosaic.frame (wpE (defs₀ (F := F)) 𝒱₀ (c : Thread nD τ) none) Set.univ (bodyG i arg2 harg2 arg3 harg3 arg4 harg4 arg5 harg5 arg6 harg6 arg7 harg7 arg8 harg8 arg9 harg9 arg10 harg10 arg11 harg11 arg12 harg12) Q := by
  have R := fun k hk f0 f1 fo G => runM c X O i arg2 harg2 arg3 harg3 arg4 harg4 arg5 harg5 arg6 harg6 arg7 harg7 arg8 harg8 arg9 harg9 arg10 harg10 arg11 harg11 arg12 harg12 (mt (cond1_iff i).1 (by omega)) ((cond2_iff i).2 (by omega)) ((cond3_iff i).2 (by omega)) (mt (cond4_iff i).1 (by omega)) h k hk f0 f1 fo G Q
  rw [Inv_mid c X O _ (pt i) (by omega) (by omega), Inv_mid c X O _ (pt i + 1) (by omega) (by omega)]
  generalize pt i = t at *
  unfold xRun oRun wOk
  rw [take_bk (xblkP c X) (t := t + 1) (by omega), take_bk (oblkP c O) (t := t) (by omega), add_bk (xblkP c X) (t := t) (by omega),
    show t + 1 - 2 = (t - 2) + 1 by omega, add_bk (oblkP c (outArr c X (h.vals c arg2 arg3 arg4 arg5 arg6 arg7 arg8 arg9 arg10 arg11 arg12))) (t := t - 2) (by omega), show t - 2 + 1 = t - 1 by omega,
    show t + 1 - 1 = t by omega, Ring.sl_add 2 t]
  iintro ⟨Hh, ⟨⟨Hxd, ⟨Hx1, Hx⟩, ⟨%f0, Hf⟩, ⟨%f1, Hs1⟩, Hc1⟩, ⟨Hod, ⟨Hb0, Hb⟩, Hop, Hoq⟩, ⟨%k, %hk, Hk⟩⟩, HW, HQ⟩
  unfold oSent
  icases Hop with ⟨%G, %fo, %hG, Hop⟩
  iapply (R k hk f0 f1 fo G)
  isplitl [Hh]; · iexact Hh
  isplitl [Hk]; · iexact Hk
  isplitl [Hf]; · iexact Hf
  isplitl [Hx1]; · iexact Hx1
  isplitl [Hs1]; · iexact Hs1
  isplitl [Hc1]; · iexact Hc1
  isplitl [Hop]; · iexact Hop
  isplitl [Hb0]; · iexact Hb0
  isplitl [HW]; · iexact HW
  iintro ⟨Hh, Hk, Hx0, Hs0, Hc0, Hf1, Hla, Hof, HW⟩
  iapply HQ
  isplitl [Hh]; · iexact Hh
  isplitr [HW]
  · isplitl [Hx0 Hxd Hx Hs0 Hc0 Hf1]
    · isplitl [Hx0 Hxd]
      · isplitl [Hx0]; · iexact Hx0
        iexact Hxd
      isplitl [Hx]; · iexact Hx
      isplitl [Hf1]; · iexists f1; iexact Hf1
      isplitl [Hs0]; · iexists _; iexact Hs0
      iexact Hc0
    isplitl [Hod Hla Hb Hof Hoq]
    · isplitl [Hod Hla]
      · isplitl [Hla]; · iapply (of_eq (landed_eq c X O _ _ G hG)); iexact Hla
        iexact Hod
      isplitl [Hb]; · iexact Hb
      isplitl [Hoq]; · iexact Hoq
      iexact Hof
    iexists k
    isplitr; · ipureintro; exact hk
    iexact Hk
  iexact HW

/-- The last point. -/
theorem step7 (h0 : pt i = 7) (h : Held (F := F) c arg2 arg3 arg4 arg5 arg6 arg7 arg8 arg9 arg10 arg11 arg12) (Q : PUnit → sProp 𝕄) :
    iprop(heldP c arg2 arg3 arg4 arg5 arg6 arg7 arg8 arg9 arg10 arg11 arg12 h ∗ Inv c X O (h.vals c arg2 arg3 arg4 arg5 arg6 arg7 arg8 arg9 arg10 arg11 arg12) (pt i) ∗ (∃ W, owes (c : Thread nD τ) 0 W)
      ∗ ((heldP c arg2 arg3 arg4 arg5 arg6 arg7 arg8 arg9 arg10 arg11 arg12 h ∗ Inv c X O (h.vals c arg2 arg3 arg4 arg5 arg6 arg7 arg8 arg9 arg10 arg11 arg12) (pt i + 1) ∗ (∃ W, owes (c : Thread nD τ) 0 W)) -∗ Q ⟨⟩))
    ⊢ wp Idealize.ShloMosaic.frame (wpE (defs₀ (F := F)) 𝒱₀ (c : Thread nD τ) none) Set.univ (bodyG i arg2 harg2 arg3 harg3 arg4 harg4 arg5 harg5 arg6 harg6 arg7 harg7 arg8 harg8 arg9 harg9 arg10 harg10 arg11 harg11 arg12 harg12) Q := by
  have R := fun k hk f0 fo fo' G G' => run7 c X O i arg2 harg2 arg3 harg3 arg4 harg4 arg5 harg5 arg6 harg6 arg7 harg7 arg8 harg8 arg9 harg9 arg10 harg10 arg11 harg11 arg12 harg12 (mt (cond1_iff i).1 (by omega)) (mt (cond2_iff i).1 (by omega)) ((cond3_iff i).2 (by omega)) ((cond4_iff i).2 h0) h k hk f0 fo fo' G G' Q
  rw [h0, Inv_mid c X O _ 7 (by decide) (by decide), Inv_eight]
  rw [h0] at R
  unfold xRun oRun wOk xHome oHome
  rw [take_bk (oblkP c O) (t := 7) (by decide), add_bk (xblkP c X) (t := 7) (by decide), add_bk (oblkP c (outArr c X (h.vals c arg2 arg3 arg4 arg5 arg6 arg7 arg8 arg9 arg10 arg11 arg12))) (t := 7) (by decide),
    add_bk (oblkP c (outArr c X (h.vals c arg2 arg3 arg4 arg5 arg6 arg7 arg8 arg9 arg10 arg11 arg12))) (t := 6) (by decide), add_bk (oblkP c (outArr c X (h.vals c arg2 arg3 arg4 arg5 arg6 arg7 arg8 arg9 arg10 arg11 arg12))) (t := 5) (by decide)]
  iintro ⟨Hh, ⟨⟨Hxd, -, ⟨%f0, Hf⟩, Hs1, Hc1⟩, ⟨Hod, ⟨Hb0, -⟩, Hop, Hoq⟩, ⟨%k, %hk, Hk⟩⟩, HW, HQ⟩
  unfold oSent
  icases Hop with ⟨%G, %fo, %hG, Hop⟩
  icases Hoq with ⟨%G', %fo', %hG', Hoq⟩
  iapply (R k hk f0 fo fo' G G')
  isplitl [Hh]; · iexact Hh
  isplitl [Hk]; · iexact Hk
  isplitl [Hf]; · iexact Hf
  isplitl [Hop]; · iexact Hop
  isplitl [Hoq]; · iexact Hoq
  isplitl [Hb0]; · iexact Hb0
  isplitl [HW]; · iexact HW
  iintro ⟨Hh, Hk, Hx0, Hs0, Hc0, Hl5, Hl6, Hp0, Hd0, Hp1, Hd1, ⟨%G7, %hG7, Hl7⟩, HW⟩
  iapply HQ
  isplitl [Hh]; · iexact Hh
  isplitr [HW]
  · isplitl [Hx0 Hxd Hs0 Hs1 Hc0 Hc1]
    · isplitl [Hx0 Hxd]
      · isplitl [Hx0]; · iexact Hx0
        iexact Hxd
      isplitl [Hs1]; · iexact Hs1
      isplitl [Hs0]; · iexists _; iexact Hs0
      isplitl [Hc1]; · iexact Hc1
      iexact Hc0
    isplitl [Hod Hl5 Hl6 Hl7 Hp0 Hp1 Hd0 Hd1]
    · isplitl [Hod Hl5 Hl6 Hl7]
      · isplitl [Hl7]; · iapply (of_eq (landed_eq c X O _ _ G7 hG7)); iexact Hl7
        isplitl [Hl6]; · iapply (of_eq (landed_eq c X O _ _ G' hG')); iexact Hl6
        isplitl [Hl5]; · iapply (of_eq (landed_eq c X O _ _ G hG)); iexact Hl5
        iexact Hod
      isplitl [Hp0]; · iexact Hp0
      isplitl [Hp1]; · iexact Hp1
      isplitl [Hd0]; · iexact Hd0
      iexact Hd1
    iexists k
    isplitr; · ipureintro; exact hk
    iexact Hk
  iexact HW

/-- Any point. -/
theorem step (h : Held (F := F) c arg2 arg3 arg4 arg5 arg6 arg7 arg8 arg9 arg10 arg11 arg12) (Q : PUnit → sProp 𝕄) :
    iprop(heldP c arg2 arg3 arg4 arg5 arg6 arg7 arg8 arg9 arg10 arg11 arg12 h ∗ Inv c X O (h.vals c arg2 arg3 arg4 arg5 arg6 arg7 arg8 arg9 arg10 arg11 arg12) (pt i) ∗ (∃ W, owes (c : Thread nD τ) 0 W)
      ∗ ((heldP c arg2 arg3 arg4 arg5 arg6 arg7 arg8 arg9 arg10 arg11 arg12 h ∗ Inv c X O (h.vals c arg2 arg3 arg4 arg5 arg6 arg7 arg8 arg9 arg10 arg11 arg12) (pt i + 1) ∗ (∃ W, owes (c : Thread nD τ) 0 W)) -∗ Q ⟨⟩))
    ⊢ wp Idealize.ShloMosaic.frame (wpE (defs₀ (F := F)) 𝒱₀ (c : Thread nD τ) none) Set.univ (bodyG i arg2 harg2 arg3 harg3 arg4 harg4 arg5 harg5 arg6 harg6 arg7 harg7 arg8 harg8 arg9 harg9 arg10 harg10 arg11 harg11 arg12 harg12) Q := by
  have := pt_lt i
  obtain h0 | h0 | h0 | h0 : pt i = 0 ∨ pt i = 1 ∨ (2 ≤ pt i ∧ pt i ≤ 6) ∨ pt i = 7 := by omega
  · exact step0 c X O i arg2 harg2 arg3 harg3 arg4 harg4 arg5 harg5 arg6 harg6 arg7 harg7 arg8 harg8 arg9 harg9 arg10 harg10 arg11 harg11 arg12 harg12 h0 h Q
  · exact step1 c X O i arg2 harg2 arg3 harg3 arg4 harg4 arg5 harg5 arg6 harg6 arg7 harg7 arg8 harg8 arg9 harg9 arg10 harg10 arg11 harg11 arg12 harg12 h0 h Q
  · exact stepM c X O i arg2 harg2 arg3 harg3 arg4 harg4 arg5 harg5 arg6 harg6 arg7 harg7 arg8 harg8 arg9 harg9 arg10 harg10 arg11 harg11 arg12 harg12 h0.1 h0.2 h Q
  · exact step7 c X O i arg2 harg2 arg3 harg3 arg4 harg4 arg5 harg5 arg6 harg6 arg7 harg7 arg8 harg8 arg9 harg9 arg10 harg10 arg11 harg11 arg12 harg12 h0 h Q

end Step

end Cert.Proof.Ring8

end
-- ==== Proof.Launch.lean ====
/-
  The run: every execution of the kernel ends, its arguments as they were, its result the array of tiles, every semaphore at
  rest.
-/
module

public import proofs.«01_k».proof.Proof.Step
public import proofs.«01_k».proof.Proof.Gen.KernelIdeal.Launch
public import proofs.«01_k».proof.Proof.Gen.KernelIdeal.Points

@[expose] public section

set_option maxHeartbeats 1000000

noncomputable section

namespace Cert.Proof.Ring8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## What the windows hold -/

/-- The eleven arrays the windows read, at the region's entry. -/
def vals (c : Dev nD) : Vals F where
  n := V m c main_cst
  s := V m c main_cst_0
  t := V m c main_v0
  w1 := V m c main_arg2
  b1 := V m c main_v1
  w2 := V m c main_arg4
  b2 := V m c main_v2
  w3 := V m c main_arg6
  b3 := V m c main_v3
  w4 := V m c main_arg8
  b4 := V m c main_v4

theorem iblk_0 (c : Dev nD) (t : Fin cfg0.N) : (iblk m c 0 t : S1x128.Idx → Elt F .f32) = V m c main_cst := by
  funext j
  unfold iblk
  refine congrArg (V m c main_cst) (funext fun a => Fin.ext ?_)
  fin_cases a
  all_goals exact (congrArg (_ + ·) (Nat.one_mul _)).trans ((congrArg (· + _) (Nat.zero_mul _)).trans (Nat.zero_add _))

theorem iblk_1 (c : Dev nD) (t : Fin cfg0.N) : (iblk m c 1 t : S8x256.Idx → Elt F .f32) = V m c main_cst_0 := by
  funext j
  unfold iblk
  refine congrArg (V m c main_cst_0) (funext fun a => Fin.ext ?_)
  fin_cases a
  all_goals exact (congrArg (_ + ·) (Nat.one_mul _)).trans ((congrArg (· + _) (Nat.zero_mul _)).trans (Nat.zero_add _))

theorem iblk_2 (c : Dev nD) (t : Fin cfg0.N) : (iblk m c 2 t : S2x4x2.Idx → Elt F .f32) = V m c main_v0 := by
  funext j
  unfold iblk
  refine congrArg (V m c main_v0) (funext fun a => Fin.ext ?_)
  fin_cases a
  all_goals exact (congrArg (_ + ·) (Nat.one_mul _)).trans ((congrArg (· + _) (Nat.zero_mul _)).trans (Nat.zero_add _))

theorem iblk_3 (c : Dev nD) (t : Fin cfg0.N) : (iblk m c 3 t : S64x32.Idx → Elt F .f32) = V m c main_arg2 := by
  funext j
  unfold iblk
  refine congrArg (V m c main_arg2) (funext fun a => Fin.ext ?_)
  fin_cases a
  all_goals exact (congrArg (_ + ·) (Nat.one_mul _)).trans ((congrArg (· + _) (Nat.zero_mul _)).trans (Nat.zero_add _))

theorem iblk_4 (c : Dev nD) (t : Fin cfg0.N) : (iblk m c 4 t : S1x64.Idx → Elt F .f32) = V m c main_v1 := by
  funext j
  unfold iblk
  refine congrArg (V m c main_v1) (funext fun a => Fin.ext ?_)
  fin_cases a
  all_goals exact (congrArg (_ + ·) (Nat.one_mul _)).trans ((congrArg (· + _) (Nat.zero_mul _)).trans (Nat.zero_add _))

theorem iblk_5 (c : Dev nD) (t : Fin cfg0.N) : (iblk m c 5 t : S64x64.Idx → Elt F .f32) = V m c main_arg4 := by
  funext j
  unfold iblk
  refine congrArg (V m c main_arg4) (funext fun a => Fin.ext ?_)
  fin_cases a
  all_goals exact (congrArg (_ + ·) (Nat.one_mul _)).trans ((congrArg (· + _) (Nat.zero_mul _)).trans (Nat.zero_add _))

theorem iblk_6 (c : Dev nD) (t : Fin cfg0.N) : (iblk m c 6 t : S1x64.Idx → Elt F .f32) = V m c main_v2 := by
  funext j
  unfold iblk
  refine congrArg (V m c main_v2) (funext fun a => Fin.ext ?_)
  fin_cases a
  all_goals exact (congrArg (_ + ·) (Nat.one_mul _)).trans ((congrArg (· + _) (Nat.zero_mul _)).trans (Nat.zero_add _))

theorem iblk_7 (c : Dev nD) (t : Fin cfg0.N) : (iblk m c 7 t : S64x64.Idx → Elt F .f32) = V m c main_arg6 := by
  funext j
  unfold iblk
  refine congrArg (V m c main_arg6) (funext fun a => Fin.ext ?_)
  fin_cases a
  all_goals exact (congrArg (_ + ·) (Nat.one_mul _)).trans ((congrArg (· + _) (Nat.zero_mul _)).trans (Nat.zero_add _))

theorem iblk_8 (c : Dev nD) (t : Fin cfg0.N) : (iblk m c 8 t : S1x64.Idx → Elt F .f32) = V m c main_v3 := by
  funext j
  unfold iblk
  refine congrArg (V m c main_v3) (funext fun a => Fin.ext ?_)
  fin_cases a
  all_goals exact (congrArg (_ + ·) (Nat.one_mul _)).trans ((congrArg (· + _) (Nat.zero_mul _)).trans (Nat.zero_add _))

theorem iblk_9 (c : Dev nD) (t : Fin cfg0.N) : (iblk m c 9 t : S3x64.Idx → Elt F .f32) = V m c main_arg8 := by
  funext j
  unfold iblk
  refine congrArg (V m c main_arg8) (funext fun a => Fin.ext ?_)
  fin_cases a
  all_goals exact (congrArg (_ + ·) (Nat.one_mul _)).trans ((congrArg (· + _) (Nat.zero_mul _)).trans (Nat.zero_add _))

theorem iblk_10 (c : Dev nD) (t : Fin cfg0.N) : (iblk m c 10 t : S1x3.Idx → Elt F .f32) = V m c main_v4 := by
  funext j
  unfold iblk
  refine congrArg (V m c main_v4) (funext fun a => Fin.ext ?_)
  fin_cases a
  all_goals exact (congrArg (_ + ·) (Nat.one_mul _)).trans ((congrArg (· + _) (Nat.zero_mul _)).trans (Nat.zero_add _))

/-- The windows' staging buffers at point `t`. -/
def heldAt (c : Dev nD) (t : Fin cfg0.N) : Held (F := F) c (st0_0 t) (st0_1 t) (st0_2 t) (st0_3 t) (st0_4 t) (st0_5 t) (st0_6 t) (st0_7 t) (st0_8 t) (st0_9 t) (st0_10 t) :=
  ⟨(st0_0 t).view.rep (iblk m c 0 t), (st0_1 t).view.rep (iblk m c 1 t), (st0_2 t).view.rep (iblk m c 2 t), (st0_3 t).view.rep (iblk m c 3 t), (st0_4 t).view.rep (iblk m c 4 t), (st0_5 t).view.rep (iblk m c 5 t), (st0_6 t).view.rep (iblk m c 6 t), (st0_7 t).view.rep (iblk m c 7 t), (st0_8 t).view.rep (iblk m c 8 t), (st0_9 t).view.rep (iblk m c 9 t), (st0_10 t).view.rep (iblk m c 10 t)⟩
theorem heldAt_vals (c : Dev nD) (t : Fin cfg0.N) : (heldAt m c t).vals c (st0_0 t) (st0_1 t) (st0_2 t) (st0_3 t) (st0_4 t) (st0_5 t) (st0_6 t) (st0_7 t) (st0_8 t) (st0_9 t) (st0_10 t) = vals m c := by
  unfold Held.vals vals heldAt
  congr 1
  · exact (View.readAt_rep_full _ _ _).trans (iblk_0 m c t)
  · exact (View.readAt_rep_full _ _ _).trans (iblk_1 m c t)
  · exact (View.read_rep _ _).trans (iblk_2 m c t)
  · exact (View.readAt_rep_full _ _ _).trans (iblk_3 m c t)
  · exact (View.readAt_rep_full _ _ _).trans (iblk_4 m c t)
  · exact (View.readAt_rep_full _ _ _).trans (iblk_5 m c t)
  · exact (View.readAt_rep_full _ _ _).trans (iblk_6 m c t)
  · exact (View.readAt_rep_full _ _ _).trans (iblk_7 m c t)
  · exact (View.readAt_rep_full _ _ _).trans (iblk_8 m c t)
  · exact (View.readAt_rep_full _ _ _).trans (iblk_9 m c t)
  · exact (View.readAt_rep_full _ _ _).trans (iblk_10 m c t)

/-! ## The pipeline's proof data -/

/-- What is held before point `t`. -/
def Φ (c : Dev nD) (t : ℕ) : sProp 𝕄 := iprop(Inv c (V m c main_arg0) (V m c main_v5) (vals m c) t ∗ ∃ r, prngReg c r)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := Φ m c t.val
  q _ := fullShare
  owed _ := 0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before_7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before_8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl
theorem before_9 (c : Dev nD) (t : Fin cfg0.N) (d) : (dats m 0 c).before 9 t d = iblk m c 9 t :=
  ((dats m 0 c).before_in_eq_fetched 9 rfl (fun _ => rfl) (fun _ _ _ => rfl) (fun _ => rfl) t d).trans rfl
theorem before_10 (c : Dev nD) (t : Fin cfg0.N) (d) : (dats m 0 c).before 10 t d = iblk m c 10 t :=
  ((dats m 0 c).before_in_eq_fetched 10 rfl (fun _ => rfl) (fun _ _ _ => rfl) (fun _ => rfl) t d).trans rfl
/-! ## The body obligation -/

theorem defs_tc : (defs₀ (F := F)) .tc cfg0.body = fun a => bodyG (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (win0_10.stage (a.2 10)) (hstage0_10 ((a.2 10).cast nbuf0_10)) := rfl
theorem prog_eq (t : Fin cfg0.N) : (defs₀ (F := F)) .tc cfg0.body (cfg0.bodyArgs t (cfg0.slots t)) = bodyG (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) :=
  (congrFun defs_tc _).trans rfl
theorem pt_coords (t : Fin cfg0.N) : pt (grid0.coords t) = t.val := by
  obtain rfl | rfl | rfl | rfl | rfl | rfl | rfl | rfl := fin_N0 t
  all_goals rfl

set_option backward.isDefEq.respectTransparency.types false in
theorem body_obligation (c : Dev nD) : BodyObligation (dats m 0 c) (defs₀ (F := F)) 𝒱₀ () Set.univ := fun t => by
  rw [bigSep_W0, bigSep_W0]
  dsimp only
  simp only [before_0, before_1, before_2, before_3, before_4, before_5, before_6, before_7, before_8, before_9, before_10]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨HI, Hp⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, %hg9, H9⟩, ⟨%d10, %g10, %hg10, H10⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  ihave H4' := (pointsTo_rep_entails (c : Thread nD τ) (st0_4 t) g4 fullShare) $$ H4
  ihave H5' := (pointsTo_rep_entails (c : Thread nD τ) (st0_5 t) g5 fullShare) $$ H5
  ihave H6' := (pointsTo_rep_entails (c : Thread nD τ) (st0_6 t) g6 fullShare) $$ H6
  ihave H7' := (pointsTo_rep_entails (c : Thread nD τ) (st0_7 t) g7 fullShare) $$ H7
  ihave H8' := (pointsTo_rep_entails (c : Thread nD τ) (st0_8 t) g8 fullShare) $$ H8
  ihave H9' := (pointsTo_rep_entails (c : Thread nD τ) (st0_9 t) g9 fullShare) $$ H9
  ihave H10' := (pointsTo_rep_entails (c : Thread nD τ) (st0_10 t) g10 fullShare) $$ H10
  rw [hg0, hg1, hg2, hg3, hg4, hg5, hg6, hg7, hg8, hg9, hg10]
  sl_rw [prog_eq t]
  have S := step c (V m c main_arg0) (V m c main_v5) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (heldAt m c t)
  rw [heldAt_vals, pt_coords] at S
  iapply (S _)
  isplitl [H0' H1' H2' H3' H4' H5' H6' H7' H8' H9' H10']
  · unfold heldP holds heldAt
    isplitl [H0']; · iexact H0'
    isplitl [H1']; · iexact H1'
    isplitl [H2']; · iexact H2'
    isplitl [H3']; · iexact H3'
    isplitl [H4']; · iexact H4'
    isplitl [H5']; · iexact H5'
    isplitl [H6']; · iexact H6'
    isplitl [H7']; · iexact H7'
    isplitl [H8']; · iexact H8'
    isplitl [H9']; · iexact H9'
    iexact H10'
  isplitl [HI]; · iexact HI
  isplitl [HW]; · iexists W; iexact HW
  unfold heldP holds heldAt
  iintro ⟨⟨H0, H1, H2, H3, H4, H5, H6, H7, H8, H9, H10⟩, HI, ⟨%W', HW⟩⟩
  isplitl [HI Hp]
  · isplitl [HI]; · iexact HI
    iexact Hp
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  isplitl [H5]
  · iexists _; isplitr; · ipureintro; exact View.read_rep _ _
    iexact H5
  isplitl [H6]
  · iexists _; isplitr; · ipureintro; exact View.read_rep _ _
    iexact H6
  isplitl [H7]
  · iexists _; isplitr; · ipureintro; exact View.read_rep _ _
    iexact H7
  isplitl [H8]
  · iexists _; isplitr; · ipureintro; exact View.read_rep _ _
    iexact H8
  isplitl [H9]
  · iexists _; isplitr; · ipureintro; exact View.read_rep _ _
    iexact H9
  iexists _; isplitr; · ipureintro; exact View.read_rep _ _
  iexact H10

/-! ## The run -/

/-- The kernel's own semaphores: the two slots' of the input buffer, the two slots' of the output buffer. -/
abbrev osem : Fin 4 → SemLoc sig := ![.dma (semIn 0).sem, .dma (semIn 1).sem, .dma (semOut 0).sem, .dma (semOut 1).sem]
theorem ownSemFacts : Pipeline.OwnSemFacts spec0 osem := by decide
/-- The buffers the body reads and writes without the pipeline: the points and the result. -/
abbrev R : Finset (Ref sig .tc) := {main_arg0, main_v5}
/-- What they hold after the last point: the result its tiles, the points as they were. -/
def Y (c : Dev nD) : (b : Ref sig .tc) → Buf (Elt F) ((c : Thread nD τ).loc b) :=
  Function.update (V m c) main_v5 (outArr c (V m c main_arg0) (vals m c))
theorem Y_x (c : Dev nD) : Y m c main_arg0 = V m c main_arg0 := Function.update_of_ne (by decide) _ _
theorem Y_o (c : Dev nD) : Y m c main_v5 = outArr c (V m c main_arg0) (vals m c) := Function.update_self _ _ _

theorem ownSems0_eq (c : Dev nD) : (Pipeline.ownSems0 (Ix := Unit) (Name := ℕ) (U := UU nD τ) (Lvl := ℕ) (Val := Elt F) (τ := τ) osem c : sProp 𝕄)
    = iprop(cellIn c 0 ∗ cellIn c 1 ∗ cellOut c 0 ∗ cellOut c 1) := by
  rw [Pipeline.ownSems0_eq_of_list c osem [0, 1, 2, 3] (by decide) (by decide)]; rfl
theorem routed_eq (c : Dev nD) (W : (b : Ref sig .tc) → Buf (Elt F) ((c : Thread nD τ).loc b)) : (Pipeline.routed R c W : sProp 𝕄)
    = iprop((((c : Thread nD τ).loc main_arg0) ↦{fullShare} W main_arg0) ∗ (((c : Thread nD τ).loc main_v5) ↦{fullShare} W main_v5)) := by
  unfold Pipeline.routed
  rw [bigSep_insert (by decide), bigSep_singleton]; rfl

/-- A scratch held through its whole view is held whole. -/
theorem holds_whole {sp : Space} {s : Shape} {e : EltTy} (c : Dev nD) (M : Memref sig .tc sp s e) (h : M.IsWhole) (f : Buf (Elt F) (M.view.loc (c : Thread nD τ))) :
    (holds c M f : sProp 𝕄) = (M.view.loc (c : Thread nD τ) ↦{fullShare} f) :=
  congrArg (fun S => (M.view.loc (c : Thread nD τ) ↦[S]{fullShare} f : sProp 𝕄)) h.set_eq_univ

theorem hin (c : Dev nD) : Pipeline.Ends spec0 osem R c (V m c) ⊢ (Φ m c 0 : sProp 𝕄) := by
  unfold Pipeline.Ends Φ
  rw [routed_eq, ownSems0_eq, scopedRest0_eq, Inv_zero, x_eq c (V m c main_arg0), o_eq c (V m c main_v5)]
  unfold xHome oHome
  iintro ⟨⟨HX, HO⟩, ⟨Hc0, Hc1, Hd0, Hd1⟩, ⟨Hx, Ho, ⟨%k1, H1⟩, ⟨%k2, H2⟩, ⟨%k3, H3⟩, ⟨%k4, H4⟩⟩, Hp⟩
  ihave Hx2 := (xbuf_split c) $$ Hx
  ihave Ho2 := (obuf_split c) $$ Ho
  icases Hx2 with ⟨Hx0, Hx1⟩
  icases Ho2 with ⟨Ho0, Ho1⟩
  isplitr [Hp]
  · isplitl [HX Hx0 Hx1 Hc0 Hc1]
    · isplitl [HX]; · iexact HX
      isplitl [Hx0]; · iexact Hx0
      isplitl [Hx1]; · iexact Hx1
      isplitl [Hc0]; · iexact Hc0
      iexact Hc1
    isplitl [HO Ho0 Ho1 Hd0 Hd1]
    · isplitl [HO]; · iexact HO
      isplitl [Ho0]; · iexact Ho0
      isplitl [Ho1]; · iexact Ho1
      isplitl [Hd0]; · iexact Hd0
      iexact Hd1
    iexists (⟨k1, k2, k3, k4⟩ : Scr c)
    unfold scrP
    rw [holds_whole c w1M (Memref.isWhole_whole _), holds_whole c w2M (Memref.isWhole_whole _), holds_whole c w3M (Memref.isWhole_whole _), holds_whole c w4M (Memref.isWhole_whole _)]
    isplitl [H1]; · iexact H1
    isplitl [H2]; · iexact H2
    isplitl [H3]; · iexact H3
    iexact H4
  iexact Hp

theorem hout (c : Dev nD) : (Φ m c 8 : sProp 𝕄) ⊢ Pipeline.Ends spec0 osem R c (Y m c) := by
  unfold Pipeline.Ends Φ
  rw [routed_eq, ownSems0_eq, scopedRest0_eq, Inv_eight, Y_x, Y_o, x_eq c (V m c main_arg0), o_eq c (outArr c (V m c main_arg0) (vals m c))]
  unfold xHome oHome wOk scrP
  iintro ⟨⟨⟨HX, Hx0, Hx1, Hc0, Hc1⟩, ⟨HO, Ho0, Ho1, Hd0, Hd1⟩, ⟨%k, -, H1, H2, H3, H4⟩⟩, Hp⟩
  isplitl [HX HO]
  · isplitl [HX]; · iexact HX
    iexact HO
  isplitl [Hc0 Hc1 Hd0 Hd1]
  · isplitl [Hc0]; · iexact Hc0
    isplitl [Hc1]; · iexact Hc1
    isplitl [Hd0]; · iexact Hd0
    iexact Hd1
  isplitr [Hp]
  · isplitl [Hx0 Hx1]
    · iapply (xbuf_join c)
      isplitl [Hx0]; · iexact Hx0
      iexact Hx1
    isplitl [Ho0 Ho1]
    · iapply (obuf_join c)
      isplitl [Ho0]; · iexact Ho0
      iexact Ho1
    isplitl [H1]; · iexists k.k1; iapply (of_eq (holds_whole c w1M (Memref.isWhole_whole _) k.k1)); iexact H1
    isplitl [H2]; · iexists k.k2; iapply (of_eq (holds_whole c w2M (Memref.isWhole_whole _) k.k2)); iexact H2
    isplitl [H3]; · iexists k.k3; iapply (of_eq (holds_whole c w3M (Memref.isWhole_whole _) k.k3)); iexact H3
    iexists k.k4; iapply (of_eq (holds_whole c w4M (Memref.isWhole_whole _) k.k4)); iexact H4
  iexact Hp

/-- What a final state holds. -/
def Final (r : PUnit × MemSt nD τ sig (Elt F)) : Prop :=
  (∀ c : Dev nD, r.2.mem ((c.tc : Thread nD τ).loc main_v5) = outArr c (V m c main_arg0) (vals m c)
    ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)))
  ∧ r.2.sem = fun _ => 0

theorem final_of (r : PUnit × MemSt nD τ sig (Elt F)) (h : Pipeline.RoutedPost cfgs (dats m) 0 R (V m) (Y m) r ∧ r.2.sem = (fun _ => 0)) :
    Final m r := by
  refine ⟨fun c => ?_, h.2⟩
  obtain ⟨hw, hr, hn⟩ := h.1 c
  have rest : ∀ b, b ∈ Pipeline.restRefs sig spec0 → b ∉ R → r.2.mem ((c.tc : Thread nD τ).loc b) = V m c b :=
    fun b h1 h2 => hn b (Finset.mem_sdiff.2 ⟨h1, h2⟩)
  exact ⟨(hr main_v5 (by decide)).trans (Y_o m c), ((hr main_arg0 (by decide)).trans (Y_x m c)).trans (V_main_arg0 m c),
    (rest main_arg1 (Pipeline.mem_restRefs_of main_arg1 (by decide) (by decide)) (by decide)).trans (V_main_arg1 m c),
    (hw 3).trans (((dats m 0 c).arrAt_in 3 rfl _).trans (V_main_arg2 m c)),
    (rest main_arg3 (Pipeline.mem_restRefs_of main_arg3 (by decide) (by decide)) (by decide)).trans (V_main_arg3 m c),
    (hw 5).trans (((dats m 0 c).arrAt_in 5 rfl _).trans (V_main_arg4 m c)),
    (rest main_arg5 (Pipeline.mem_restRefs_of main_arg5 (by decide) (by decide)) (by decide)).trans (V_main_arg5 m c),
    (hw 7).trans (((dats m 0 c).arrAt_in 7 rfl _).trans (V_main_arg6 m c)),
    (rest main_arg7 (Pipeline.mem_restRefs_of main_arg7 (by decide) (by decide)) (by decide)).trans (V_main_arg7 m c),
    (hw 9).trans (((dats m 0 c).arrAt_in 9 rfl _).trans (V_main_arg8 m c)),
    (rest main_arg9 (Pipeline.mem_restRefs_of main_arg9 (by decide) (by decide)) (by decide)).trans (V_main_arg9 m c)⟩

set_option backward.isDefEq.respectTransparency.types false in
/-- From any memory with every counter at zero, every weakly fair execution of the kernel ends, in a state as `Final` says. -/
theorem run_main : θ_run defs (onTc (τ := τ) (main (F := F))) ⟨m, fun _ => 0, ρ⟩ (Final m) :=
  Pipeline.θ_run_frame_routed cfgs (dats m) 0 launch0 ownSemFacts defs₀ 𝒱₀ m ρ main
    (hbody := fun c => (body_obligation m c).loose) (hshare := fun c => (dats m 0 c).share_full fun _ => rfl) (howed := fun _ _ => rfl)
    (V := V m) (hmain := Pipeline.hmain_prefix cfgs 0 defs₀ 𝒱₀ m main hostOps0 hostOps0_sub hostOps0_fresh main_chain)
    (hA := fun _ _ => rfl) (R := R) (hR := by decide) (Y := Y m) (hin := hin m) (hout := hout m) (Q' := Final m) (hQ' := final_of m)

end Cert.Proof.Ring8

end
-- ==== Proof.Transfer.lean ====
/-
  The program as compiled and the program over any floats are the same text: the kernel, its table of bodies and @main agree,
  so a run of the one is a run of the other.
-/
module

public import proofs.«01_k».proof.Defs
public import proofs.«01_k».proof.Proof.Gen.Kernel
public import proofs.«01_k».proof.Proof.Gen.KernelIdeal
public import proofs.«01_k».proof.Proof.Launch

@[expose] public section

set_option maxHeartbeats 4000000

noncomputable section

namespace Cert.Proof

open Idealize.ShloMosaic Idealize.SL.Sem

theorem kernel_eq : @Cert.Kernel.cc0__mlp_encode_kernel Bits _ Cert.Kernel.Gen.facts
    = @Cert.KernelIdeal.cc0__mlp_encode_kernel Bits _ Cert.KernelIdeal.Gen.facts := rfl
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext f x
  obtain ⟨f, h⟩ := f
  obtain rfl : f = 0 := by have : f < 1 := h; omega
  obtain ⟨t, s⟩ := x
  rw [← kernel_eq]
  generalize @Cert.Kernel.cc0__mlp_encode_kernel Bits _ Cert.Kernel.Gen.facts = K
  rfl
theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq
theorem main_eq : @Cert.Kernel.main Bits _ Cert.Kernel.Gen.facts = @Cert.KernelIdeal.main Bits _ Cert.KernelIdeal.Gen.facts := rfl

/-- The frame of the program over extended reals; -/
theorem frame_ideal : Cert.quiescent_KernelIdeal (hKernelIdeal := Cert.KernelIdeal.Gen.facts) := fun m ρ _ =>
  (θ_run _ _ _).mono (fun _ h => ⟨fun c => (h.1 c).2, h.2⟩) (Ring8.run_main m ρ)

/-- and of the program as compiled. -/
theorem frame_kernel : Cert.quiescent_Kernel (hKernel := Cert.Kernel.Gen.facts) := by
  intro m ρ _
  have h := Ring8.run_main (F := Bits) m ρ
  rw [← defs_eq, ← main_eq] at h
  exact (θ_run _ _ _).mono (fun _ h => ⟨fun c => (h.1 c).2, h.2⟩) h

end Cert.Proof

end
-- ==== Proof.RefRun.lean ====
/-
  The reference program's run: it has host operations only and declares no semaphore.
-/
module

public import proofs.«01_k».proof.Defs
public import proofs.«01_k».proof.Proof.Gen.ReferenceIdeal
public import proofs.«01_k».proof.Proof.Gen.ReferenceIdeal.Run

@[expose] public section

noncomputable section

namespace Cert.Proof

open Idealize.ShloMosaic Idealize.SL.Sem

/-- The frame of the reference. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

end Cert.Proof

end
-- ==== Proof.Net.lean ====
/-
  The network on one point's features, and four such networks side by side: rows that hold four points' values end to end, and
  matrices that hold four copies of the weights down the diagonal.
-/
module

public import Idealize.ShloMosaic.Lib.Pointwise

@[expose] public section

noncomputable section

namespace Cert.Proof.Net

open Idealize.ShloMosaic

/-- A negative value is scaled down. -/
def lrelu (v : EReal) : EReal := if 0 ≤ v then v else Ideal.ofBits .f32 0x3C23D70A#32 * v

/-- One layer before its activation. -/
def dense {N K : ℕ} (w : Fin N → Fin K → EReal) (b : Fin N → EReal) (h : Fin K → EReal) (i : Fin N) : EReal := ∑ k, h k * w i k + b i

/-- The network. -/
def net (w1 : Fin 64 → Fin 32 → EReal) (b1 : Fin 64 → EReal) (w2 : Fin 64 → Fin 64 → EReal) (b2 : Fin 64 → EReal)
    (w3 : Fin 64 → Fin 64 → EReal) (b3 : Fin 64 → EReal) (w4 : Fin 3 → Fin 64 → EReal) (b4 : Fin 3 → EReal) (h : Fin 32 → EReal) (i : Fin 3) : EReal :=
  max (dense w4 b4 (fun k => lrelu (dense w3 b3 (fun k => lrelu (dense w2 b2 (fun k => lrelu (dense w1 b1 h k)) k)) k)) i) 0

/-- Position `i` of part `p`, of four parts of length `N` end to end. -/
def at4 {N : ℕ} (p : Fin 4) (i : Fin N) : Fin (4 * N) :=
  ⟨N * p.val + i.val, by
    have := i.isLt
    have : N * p.val ≤ N * 3 := Nat.mul_le_mul_left _ (by omega)
    omega⟩

/-- Four copies of `w` down the diagonal. -/
def IsDiag {N K : ℕ} (w : Fin N → Fin K → EReal) (d : Fin (4 * N) → Fin (4 * K) → EReal) : Prop :=
  ∀ (p q : Fin 4) (i : Fin N) (k : Fin K), d (at4 p i) (at4 q k) = if p = q then w i k else 0

/-- A sum over four parts end to end. -/
theorem sum_at4 {K : ℕ} (f : Fin (4 * K) → EReal) : ∑ k, f k = ∑ q : Fin 4, ∑ k : Fin K, f (at4 q k) := by
  rw [← Fintype.sum_prod_type' (fun q k => f (at4 q k))]
  refine (Fintype.sum_equiv (finProdFinEquiv (m := 4) (n := K)) _ _ fun x => ?_).symm
  congr 1
  apply Fin.ext
  show K * x.1.val + x.2.val = x.2.val + K * x.1.val
  omega

/-- Part `p` of a product with a block-diagonal matrix is part `p`'s product with the block. -/
theorem sum_diag {N K : ℕ} (w : Fin N → Fin K → EReal) (d : Fin (4 * N) → Fin (4 * K) → EReal) (hd : IsDiag w d) (h : Fin (4 * K) → EReal)
    (p : Fin 4) (i : Fin N) : ∑ k, h k * d (at4 p i) k = ∑ k, h (at4 p k) * w i k := by
  rw [sum_at4, Finset.sum_eq_single p]
  · exact Finset.sum_congr rfl fun k _ => by rw [hd, if_pos rfl]
  · intro q _ hq
    exact Finset.sum_eq_zero fun k _ => by rw [hd, if_neg fun e => hq e.symm, mul_zero]
  · exact fun hp => absurd (Finset.mem_univ p) hp

/-- The same of a layer whose bias is repeated four times. -/
theorem dense_diag {N K : ℕ} (w : Fin N → Fin K → EReal) (b : Fin N → EReal) (d : Fin (4 * N) → Fin (4 * K) → EReal) (c : Fin (4 * N) → EReal)
    (hd : IsDiag w d) (hc : ∀ p i, c (at4 p i) = b i) (h : Fin (4 * K) → EReal) (p : Fin 4) (i : Fin N) :
    dense d c h (at4 p i) = dense w b (fun k => h (at4 p k)) i := by
  unfold dense
  rw [sum_diag w d hd, hc]

/-- Four networks side by side. -/
theorem net_diag (w1 : Fin 64 → Fin 32 → EReal) (b1 : Fin 64 → EReal) (w2 : Fin 64 → Fin 64 → EReal) (b2 : Fin 64 → EReal)
    (w3 : Fin 64 → Fin 64 → EReal) (b3 : Fin 64 → EReal) (w4 : Fin 3 → Fin 64 → EReal) (b4 : Fin 3 → EReal)
    (d1 : Fin (4 * 64) → Fin (4 * 32) → EReal) (c1 : Fin (4 * 64) → EReal) (d2 : Fin (4 * 64) → Fin (4 * 64) → EReal) (c2 : Fin (4 * 64) → EReal)
    (d3 : Fin (4 * 64) → Fin (4 * 64) → EReal) (c3 : Fin (4 * 64) → EReal) (d4 : Fin (4 * 3) → Fin (4 * 64) → EReal) (c4 : Fin (4 * 3) → EReal)
    (h1 : IsDiag w1 d1) (e1 : ∀ p i, c1 (at4 p i) = b1 i) (h2 : IsDiag w2 d2) (e2 : ∀ p i, c2 (at4 p i) = b2 i)
    (h3 : IsDiag w3 d3) (e3 : ∀ p i, c3 (at4 p i) = b3 i) (h4 : IsDiag w4 d4) (e4 : ∀ p i, c4 (at4 p i) = b4 i)
    (h : Fin (4 * 32) → EReal) (p : Fin 4) (i : Fin 3) :
    max (dense d4 c4 (fun k => lrelu (dense d3 c3 (fun k => lrelu (dense d2 c2 (fun k => lrelu (dense d1 c1 h k)) k)) k)) (at4 p i)) 0
      = net w1 b1 w2 b2 w3 b3 w4 b4 (fun k => h (at4 p k)) i := by
  unfold net
  rw [dense_diag w4 b4 d4 c4 h4 e4]
  simp only [dense_diag w3 b3 d3 c3 h3 e3, dense_diag w2 b2 d2 c2 h2 e2, dense_diag w1 b1 d1 c1 h1 e1]

/-- Four copies of `b` end to end, entry by entry. -/
def rep {N : ℕ} (b : Fin N → EReal) (x : Fin (4 * N)) : EReal :=
  if h : x.val < N then b ⟨x.val, h⟩ else if h : x.val - N < N then b ⟨x.val - N, h⟩ else
    if h : x.val - N - N < N then b ⟨x.val - N - N, h⟩ else b ⟨x.val - N - N - N, by have := x.isLt; omega⟩

theorem rep_at4 {N : ℕ} (b : Fin N → EReal) (p : Fin 4) (i : Fin N) : rep b (at4 p i) = b i := by
  have hi := i.isLt
  have key : ∀ n : ℕ, n = i.val → ∀ hn : n < N, b ⟨n, hn⟩ = b i := fun n e hn => congrArg b (Fin.ext e)
  have h0 : (at4 p i).val = N * p.val + i.val := rfl
  have h1 : N * p.val + i.val = i.val ∨ N * p.val + i.val = N + i.val ∨ N * p.val + i.val = N + N + i.val ∨ N * p.val + i.val = N + N + N + i.val := by
    rcases (by omega : p.val = 0 ∨ p.val = 1 ∨ p.val = 2 ∨ p.val = 3) with e | e | e | e <;> rw [e] <;> omega
  unfold rep
  split_ifs <;> exact key _ (by omega) _

end Cert.Proof.Net

end
-- ==== Proof.Words.lean ====
/-
  The float constants of the two programs as real numbers: the sixteen grid sizes, a half, a two and the bound on the points.
-/
module

public import Idealize.ShloMosaic.Lib.Pointwise

@[expose] public section

noncomputable section

namespace Cert.Proof.Words

open Idealize.ShloMosaic

/-- The exponent field and the significand (with its leading one) of a word. -/
abbrev expo (b : BitVec 32) : ℕ := (b.extractLsb' 23 8).toNat
abbrev mant (b : BitVec 32) : ℕ := 2 ^ 23 + (b.extractLsb' 0 23).toNat

/-- The word is positive, normal and at most `2 ^ 24`. -/
def Small (b : BitVec 32) : Prop := b.extractLsb' 31 1 = 0#1 ∧ expo b ≠ 0 ∧ expo b ≤ 150
instance (b : BitVec 32) : Decidable (Small b) := by unfold Small; infer_instance

theorem ofBits_normal (b : BitVec 32) (hs : b.extractLsb' 31 1 = 0#1) (h0 : expo b ≠ 0) (h1 : expo b ≠ 255) :
    Ideal.ofBits .f32 b = (((mant b : ℝ) * (2 : ℝ) ^ ((expo b : ℤ) - 150) : ℝ) : EReal) := by
  show Ideal.ieee 8 23 b = _
  unfold Ideal.ieee
  simp only [Nat.reduceAdd, hs]
  rw [if_neg (by simpa using h1), if_neg h0]
  have e : ((expo b : ℤ) - (2 ^ (8 - 1) - 1) - (23 : ℕ)) = (expo b : ℤ) - 150 := by norm_num; ring
  simp only [e]
  norm_num [mant]

theorem ofBits_small (b : BitVec 32) (h : Small b) :
    Ideal.ofBits .f32 b = (((mant b : ℝ) / (2 : ℝ) ^ (150 - expo b) : ℝ) : EReal) := by
  obtain ⟨hs, h0, h1⟩ := h
  rw [ofBits_normal b hs h0 (by omega)]
  have e : ((expo b : ℤ) - 150) = -((150 - expo b : ℕ) : ℤ) := by omega
  rw [e, zpow_neg, zpow_natCast, div_eq_mul_inv]

/-- A small word that denotes a whole number. -/
theorem ofBits_nat (b : BitVec 32) (k : ℕ) (h : Small b) (hk : mant b = k * 2 ^ (150 - expo b)) : Ideal.ofBits .f32 b = ((k : ℝ) : EReal) := by
  rw [ofBits_small b h, hk]
  push_cast
  rw [mul_div_cancel_right₀ _ (by positivity)]
  rfl

/-- A small word's integer part. -/
theorem floor_ofBits (b : BitVec 32) (k : ℕ) (h : Small b) (hk : k * 2 ^ (150 - expo b) ≤ mant b) (hk' : mant b < (k + 1) * 2 ^ (150 - expo b)) :
    Ideal.liftRound Int.floor (Ideal.ofBits .f32 b) = ((k : ℝ) : EReal) := by
  rw [ofBits_small b h, Ideal.liftRound_coe]
  have hp : (0 : ℝ) < 2 ^ (150 - expo b) := by positivity
  have : ⌊(mant b : ℝ) / 2 ^ (150 - expo b)⌋ = (k : ℤ) := by
    rw [Int.floor_eq_iff]
    constructor
    · rw [le_div_iff₀ hp]; exact_mod_cast hk
    · rw [div_lt_iff₀ hp]; exact_mod_cast hk'
  rw [this]; norm_num

theorem ofBits_half : Ideal.ofBits .f32 0x3F000000#32 = ((1 / 2 : ℝ) : EReal) := by
  rw [ofBits_small _ (by decide), show mant 0x3F000000#32 = 2 ^ 23 by decide, show expo 0x3F000000#32 = 126 by decide]
  norm_num
theorem ofBits_two : Ideal.ofBits .f32 0x40000000#32 = ((2 : ℝ) : EReal) := by
  rw [ofBits_nat _ 2 (by decide) (by decide)]; norm_num
theorem ofBits_bound : Ideal.ofBits .f32 0x4C000000#32 = ((2 ^ 25 : ℝ) : EReal) := by
  rw [ofBits_normal _ (by decide) (by decide) (by decide), show mant 0x4C000000#32 = 2 ^ 23 by decide, show expo 0x4C000000#32 = 152 by decide]
  norm_num
theorem ofBits_top : Ideal.ofBits .f32 0x7F800000#32 = (⊤ : EReal) := by
  show Ideal.ieee 8 23 (0x7F800000#32 : BitVec 32) = ⊤
  unfold Ideal.ieee
  exact if_pos (by decide)
theorem ofBits_bot : Ideal.ofBits .f32 0xFF800000#32 = (⊥ : EReal) := by
  show Ideal.ieee 8 23 (0xFF800000#32 : BitVec 32) = ⊥
  unfold Ideal.ieee
  exact if_pos (by decide)

/-- The sixteen grid sizes. -/
def size : Fin 16 → ℕ := ![16, 17, 19, 21, 23, 25, 27, 30, 33, 36, 40, 44, 48, 53, 58, 64]
theorem size_le (l : Fin 16) : size l ≤ 64 := by revert l; decide

end Cert.Proof.Words

end
-- ==== Proof.Parity.lean ====
/-
  The parity of a point's cell number, read two ways: as a 32-bit word (multiplied by an odd number, combined by exclusive or,
  reduced modulo two with the sign put right) and as a real number (`n - 2 ⌊n / 2⌋`).
-/
module

public import Idealize.ShloMosaic.Lib.Pointwise

@[expose] public section

noncomputable section

namespace Cert.Proof.Parity

open Idealize.ShloMosaic

/-- The parity of a natural number. -/
def par (n : ℕ) : Fin 2 := ⟨n % 2, Nat.mod_lt _ (by norm_num)⟩

/-- The remainder by two that takes the divisor's sign, as the program computes it from the one that takes the dividend's. -/
def rem2 (w : BitVec 32) : BitVec 32 :=
  Scalar.select (IntOp.andi (IntOp.cmpi .ne (IntOp.cmpi .slt (IntOp.remsi .host w 2#32) 0#32) (IntOp.cmpi .slt 2#32 0#32))
    (IntOp.cmpi .ne (IntOp.remsi .host w 2#32) 0#32)) (IntOp.addi (IntOp.remsi .host w 2#32) 2#32) (IntOp.remsi .host w 2#32)

theorem rem2_eq (w : BitVec 32) : rem2 w = BitVec.ofNat 32 (w.toNat % 2) := by
  have hr : IntOp.remsi .host w 2#32 = w.srem 2#32 := by
    unfold IntOp.remsi
    rw [if_neg]
    unfold IntOp.SDivCorner
    simp
  have ht : (w.srem 2#32).toInt = w.toInt.tmod 2 := by rw [BitVec.toInt_srem]; rfl
  have hc : w.srem 2#32 = BitVec.ofInt 32 (w.toInt.tmod 2) := by rw [← ht, BitVec.ofInt_toInt]
  have hw : w.toInt % 2 = (w.toNat % 2 : ℕ) := by rw [BitVec.toInt_eq_toNat_cond]; split <;> omega
  unfold rem2
  rw [hr, hc]
  rcases (by omega : w.toNat % 2 = 0 ∨ w.toNat % 2 = 1) with h | h <;> rw [h] at hw ⊢
  · have : w.toInt.tmod 2 = 0 := Int.tmod_eq_zero_of_dvd (by omega)
    rw [this]; decide
  · rcases (by have h2 := Int.natAbs_tmod w.toInt 2; rw [show (2 : ℤ).natAbs = 2 from rfl] at h2; omega : w.toInt.tmod 2 = 1 ∨ w.toInt.tmod 2 = -1) with e | e <;>
    · rw [e]; decide

/-- A real number of a word's range, truncated. -/
theorem fptosi_coe (a : ℝ) (h0 : 0 ≤ a) (h1 : a < 2 ^ 31) : Ideal.fptosi 32 (a : EReal) = BitVec.ofNat 32 ⌊a⌋₊ := by
  have hn : ⌊a⌋ = (⌊a⌋₊ : ℤ) := (Int.natCast_floor_eq_floor h0).symm
  have hlt : ⌊a⌋₊ < 2 ^ 31 := (Nat.floor_lt h0).2 (by exact_mod_cast h1)
  unfold Ideal.fptosi
  rw [Ideal.toIntClamped_coe, if_pos h0, hn, min_eq_right (by norm_num; omega), max_eq_right (by norm_num)]
  exact BitVec.ofInt_natCast _ _

theorem xor_mod_two (a b : ℕ) : (a ^^^ b) % 2 = (a + b) % 2 := by
  have h := Nat.xor_mod_two_pow (a := a) (b := b) (n := 1)
  rw [pow_one] at h
  rw [h]
  rcases (by omega : a % 2 = 0 ∨ a % 2 = 1) with e | e <;> rcases (by omega : b % 2 = 0 ∨ b % 2 = 1) with e' | e' <;> rw [e, e', Nat.add_mod, e, e'] <;> rfl

/-- The word the program looks a vertex up by: parity of the sum of the cell numbers the vertex moves. -/
theorem hash_eq (a b : ℕ) (ha : a < 2 ^ 31) (hb : b < 2 ^ 31) :
    rem2 (IntOp.xori (IntOp.muli (BitVec.ofNat 32 a) 1#32) (IntOp.muli (BitVec.ofNat 32 b) 2654435761#32)) = BitVec.ofNat 32 ((a + b) % 2) := by
  rw [rem2_eq]
  congr 1
  unfold IntOp.xori IntOp.muli
  rw [BitVec.toNat_xor, xor_mod_two, BitVec.toNat_mul, BitVec.toNat_mul, BitVec.toNat_ofNat, BitVec.toNat_ofNat]
  norm_num
  omega

/-- The looked-up row is a row of the table, negative numbers counting from its end. -/
theorem row_eq (n : ℕ) (h : n < 2) (k : BitVec 32) :
    (Scalar.select (IntOp.cmpi .slt (BitVec.ofNat 32 n) 0#32) (IntOp.addi (BitVec.ofNat 32 n) k) (BitVec.ofNat 32 n)).toInt.toNat = n := by
  have hf : IntOp.cmpi .slt (BitVec.ofNat 32 n) 0#32 = 0#1 := by
    rcases (by omega : n = 0 ∨ n = 1) with rfl | rfl <;> decide
  rw [hf]
  show (BitVec.ofNat 32 n).toInt.toNat = n
  rcases (by omega : n = 0 ∨ n = 1) with rfl | rfl <;> decide

/-- The parity as a real number, from the real cell number. -/
theorem parity_coe (n : ℕ) : ((n : ℝ) - 2 * (⌊(n : ℝ) * (1 / 2)⌋ : ℤ) : ℝ) = ((par n).val : ℝ) := by
  have : ⌊(n : ℝ) * (1 / 2)⌋ = ((n / 2 : ℕ) : ℤ) := by
    rw [Int.floor_eq_iff]
    have h := Nat.div_add_mod n 2
    have hm := Nat.mod_lt n (show 2 > 0 by norm_num)
    have h' : (2 : ℝ) * (n / 2 : ℕ) + (n % 2 : ℕ) = n := by exact_mod_cast h
    have hm' : ((n % 2 : ℕ) : ℝ) ≤ 1 := by exact_mod_cast (by omega : n % 2 ≤ 1)
    have h0 : (0 : ℝ) ≤ ((n % 2 : ℕ) : ℝ) := by positivity
    rw [Int.cast_natCast]
    constructor <;> linarith
  rw [this, Int.cast_natCast]
  have h := Nat.div_add_mod n 2
  have h' : (2 : ℝ) * (n / 2 : ℕ) + (n % 2 : ℕ) = n := by exact_mod_cast h
  show _ = ((n % 2 : ℕ) : ℝ)
  linarith

/-- The exclusive or of two parities, as real numbers. -/
theorem parity_xor (a b : ℕ) : (((par a).val : ℝ) + ((par b).val : ℝ) - 2 * ((par a).val : ℝ) * ((par b).val : ℝ)) = ((par (a + b)).val : ℝ) := by
  have h : (par (a + b)).val = (a % 2 + b % 2) % 2 := by show (a + b) % 2 = _; omega
  rw [h]
  show ((a % 2 : ℕ) : ℝ) + ((b % 2 : ℕ) : ℝ) - 2 * ((a % 2 : ℕ) : ℝ) * ((b % 2 : ℕ) : ℝ) = _
  rcases (by omega : a % 2 = 0 ∨ a % 2 = 1) with e | e <;> rcases (by omega : b % 2 = 0 ∨ b % 2 = 1) with e' | e' <;> rw [e, e'] <;> norm_num

end Cert.Proof.Parity

end
-- ==== Proof.Feature.lean ====
/-
  One feature of one point, as the kernel computes it (a table row corrected by the parity) and as the reference computes it
  (four looked-up entries, weighted), and the equation between them.
-/
module

public import proofs.«01_k».proof.Proof.Words
public import proofs.«01_k».proof.Proof.Parity

@[expose] public section

noncomputable section

namespace Cert.Proof.Feature

open Idealize.ShloMosaic Cert.Proof.Words Cert.Proof.Parity

/-- The integer part, the fraction and the parity of the integer part of a scaled coordinate. -/
def fl (s : EReal) : EReal := Ideal.liftRound Int.floor s
def fr (s : EReal) : EReal := s - fl s
def pr (s : EReal) : EReal := fl s - Ideal.ofBits .f32 0x40000000#32 * Ideal.liftRound Int.floor (fl s * Ideal.ofBits .f32 0x3F000000#32)
/-- The parity of the two together. -/
def prx (s s' : EReal) : EReal := pr s + pr s' - Ideal.ofBits .f32 0x40000000#32 * pr s * pr s'

/-- The kernel's feature: `t h v` is the table's entry of row `h` at vertex `v`. -/
def kfeat (t : Fin 2 → Fin 4 → EReal) (s s' : EReal) : EReal :=
  (1 - fr s') * ((1 - fr s) * t 0 0 + fr s * (t 0 2 + pr s * (t 1 2 - t 0 2)))
    + fr s' * ((1 - fr s) * (t 0 1 + pr s' * (t 1 1 - t 0 1)) + fr s * (t 0 3 + prx s s' * (t 1 3 - t 0 3)))

/-- The cell number of a nonnegative scaled coordinate. -/
def cell (s : EReal) : ℕ := ⌊s.toReal⌋₊

/-- The reference's feature. -/
def rfeat (t : Fin 2 → Fin 4 → EReal) (s s' : EReal) : EReal :=
  (1 - fr s) * (1 - fr s') * t 0 0 + (1 - fr s) * fr s' * t (par (cell s')) 1 + fr s * (1 - fr s') * t (par (cell s)) 2
    + fr s * fr s' * t (par (cell s + cell s')) 3

theorem fl_coe (a : ℝ) (h : 0 ≤ a) : fl (a : EReal) = ((⌊a⌋₊ : ℝ) : EReal) := by
  unfold fl
  rw [Ideal.liftRound_coe, ← Int.natCast_floor_eq_floor h, Int.cast_natCast]
theorem fr_coe (a : ℝ) (h : 0 ≤ a) : fr (a : EReal) = ((a - ⌊a⌋₊ : ℝ) : EReal) := by
  unfold fr; rw [fl_coe a h, EReal.coe_sub]
theorem pr_coe (a : ℝ) (h : 0 ≤ a) : pr (a : EReal) = (((par (cell a)).val : ℝ) : EReal) := by
  unfold pr
  rw [fl_coe a h, ofBits_two, ofBits_half, ← EReal.coe_mul, Ideal.liftRound_coe, ← EReal.coe_mul, ← EReal.coe_sub, parity_coe]
  rfl
theorem prx_coe (a b : ℝ) (h : 0 ≤ a) (h' : 0 ≤ b) : prx (a : EReal) (b : EReal) = (((par (cell a + cell b)).val : ℝ) : EReal) := by
  unfold prx
  rw [pr_coe a h, pr_coe b h', ofBits_two, ← EReal.coe_add, ← EReal.coe_mul, ← EReal.coe_mul, ← EReal.coe_sub, parity_xor]

/-- A correction by a parity is a lookup of the row the parity names, where row zero is finite. -/
theorem correct (t : Fin 2 → EReal) (p : Fin 2) (h : t 0 ≠ ⊤) (h' : t 0 ≠ ⊥) : t 0 + ((p.val : ℝ) : EReal) * (t 1 - t 0) = t p := by
  fin_cases p
  · simp
  · simp only [Nat.cast_one, EReal.coe_one, one_mul]
    lift t 0 to ℝ using ⟨h, h'⟩ with r
    show (r : EReal) + (t 1 - r) = t 1
    rw [add_comm]
    exact EReal.sub_add_cancel

/-- The kernel's feature is the reference's, at nonnegative real coordinates, where the vertices past the first have finite
entries in row zero. -/
theorem kfeat_eq_rfeat (t : Fin 2 → Fin 4 → EReal) (a b : ℝ) (h : 0 ≤ a) (h' : 0 ≤ b) (ht : ∀ v : Fin 4, v ≠ 0 → t 0 v ≠ ⊤ ∧ t 0 v ≠ ⊥) :
    kfeat t a b = rfeat t a b := by
  have hx : ∀ c : ℝ, 0 ≤ c → (0 : EReal) ≤ fr c ∧ fr c ≠ ⊤ := fun c hc => by
    rw [fr_coe c hc]
    exact ⟨EReal.coe_nonneg.2 (sub_nonneg.2 (Nat.floor_le hc)), EReal.coe_ne_top _⟩
  have hy : ∀ c : ℝ, 0 ≤ c → (0 : EReal) ≤ 1 - fr c ∧ 1 - fr c ≠ ⊤ := fun c hc => by
    rw [fr_coe c hc, ← EReal.coe_one, ← EReal.coe_sub]
    exact ⟨EReal.coe_nonneg.2 (by have := Nat.lt_floor_add_one c; linarith), EReal.coe_ne_top _⟩
  unfold kfeat rfeat
  rw [prx_coe a b h h', pr_coe a h, pr_coe b h']
  rw [correct (fun k => t k 1) _ (ht 1 (by decide)).1 (ht 1 (by decide)).2, correct (fun k => t k 2) _ (ht 2 (by decide)).1 (ht 2 (by decide)).2,
    correct (fun k => t k 3) _ (ht 3 (by decide)).1 (ht 3 (by decide)).2]
  obtain ⟨x0, x1⟩ := hx b h'
  obtain ⟨y0, y1⟩ := hy b h'
  rw [EReal.left_distrib_of_nonneg_of_ne_top x0 x1, EReal.left_distrib_of_nonneg_of_ne_top y0 y1]
  simp only [← mul_assoc]
  rw [mul_comm (1 - fr b) (1 - fr a), mul_comm (1 - fr b) (fr a), mul_comm (fr b) (1 - fr a), mul_comm (fr b) (fr a)]
  abel

/-- A point's coordinate scaled by the grid size of lane `l`. -/
def scaled (x : EReal) (l : Fin 32) : EReal := x * (((size ⟨l.val / 2, by omega⟩ : ℕ) : ℝ) : EReal)

/-- What lane `l` reads of the table's first two rows and first four columns. -/
def tab (a : (⟨3, ![16, 262144, 2]⟩ : Shape).Idx → EReal) (l : Fin 32) (h : Fin 2) (v : Fin 4) : EReal :=
  a (ix3 (⟨h.val, by omega⟩ : Fin 16) (⟨v.val, by omega⟩ : Fin 262144) (⟨l.val % 2, Nat.mod_lt _ (by norm_num)⟩ : Fin 2))

end Cert.Proof.Feature

end
-- ==== Proof.Lanes.lean ====
/-
  The 128 lanes a grid point works on: four points side by side, 32 lanes to a point, two lanes to a grid size. Lane by lane,
  the features the kernel computes are those of one point at one grid size.
-/
module

public import proofs.«01_k».proof.Proof.Tile
public import proofs.«01_k».proof.Proof.Net
public import proofs.«01_k».proof.Proof.Feature

@[expose] public section

noncomputable section

namespace Cert.Proof.Ring8

open Cert.KernelIdeal Cert.KernelIdeal.Gen
open Idealize.ShloMosaic Cert.Proof.Net Cert.Proof.Words Cert.Proof.Feature

/-- The matrix that spreads the points: each of its 256 columns picks one coordinate of one of the four points. -/
def Spreads (s : Vec Ideal S8x256 .f32) : Prop :=
  ∀ (k : Fin 8) (j : Fin 256), s (ix2 k j) = if k.val = 2 * (j.val / 32 % 4) + j.val / 128 then (1 : EReal) else 0
/-- The row of grid sizes. -/
def Sizes (n : Vec Ideal S1x128 .f32) : Prop :=
  ∀ j : Fin 128, n (ix2 0 j) = (((size ⟨j.val % 32 / 2, by omega⟩ : ℕ) : ℝ) : EReal)

/-- Four pairs end to end. -/
def ends (x : Fin 4 → Fin 2 → EReal) (k : Fin 8) : EReal :=
  if h : k.val < 2 then x 0 ⟨k.val, h⟩ else if h : k.val - 2 < 2 then x 1 ⟨k.val - 2, h⟩ else
    if h : k.val - 2 - 2 < 2 then x 2 ⟨k.val - 2 - 2, h⟩ else x 3 ⟨k.val - 2 - 2 - 2, by have := k.isLt; omega⟩

theorem ends_apply (x : Fin 4 → Fin 2 → EReal) (p : Fin 4) (c : Fin 2) (k : Fin 8) (h : k.val = 2 * p.val + c.val) : ends x k = x p c := by
  have key : ∀ (q : Fin 4) (n : ℕ) (hn : n < 2), q.val = p.val → n = c.val → x q ⟨n, hn⟩ = x p c := by
    intro q n hn hq hc
    rw [Fin.ext hq, show (⟨n, hn⟩ : Fin 2) = c from Fin.ext hc]
  have hp := p.isLt
  have hc := c.isLt
  unfold ends
  split_ifs
  · exact key 0 _ _ (by show 0 = _; omega) (by omega)
  · exact key 1 _ _ (by show 1 = _; omega) (by omega)
  · exact key 2 _ _ (by show 2 = _; omega) (by omega)
  · exact key 3 _ _ (by show 3 = _; omega) (by omega)

/-- Column `j` of the spread points. -/
theorem spread_apply (X : Fin 4 → Vec Ideal S512x2 .f32) (s : Vec Ideal S8x256 .f32) (hs : Spreads s) (r : Fin 512) (j : Fin 256) (p : Fin 4) (c : Fin 2)
    (hp : j.val / 32 % 4 = p.val) (hc : j.val / 128 = c.val) : k0_pay21 (X 0) (X 1) (X 2) (X 3) s (ix2 r j) = X p (ix2 r c) := by
  pointwise [k0_pay21]
  show ∑ k : Fin 8, ends (fun q c => X q (ix2 r c)) k * s (ix2 k j) = X p (ix2 r c)
  have hk : 2 * p.val + c.val < 8 := by omega
  rw [Finset.sum_eq_single (⟨2 * p.val + c.val, hk⟩ : Fin 8)]
  · rw [hs, if_pos (by show 2 * p.val + c.val = _; rw [hp, hc]), mul_one]
    exact ends_apply _ p c _ rfl
  · intro k _ hne
    rw [hs, if_neg (fun e => hne (Fin.ext (by rw [e, hp, hc]))), mul_zero]
  · exact fun h => absurd (Finset.mem_univ _) h

section
variable (X : Fin 4 → Vec Ideal S512x2 .f32) (s : Vec Ideal S8x256 .f32) (hs : Spreads s) (n : Vec Ideal S1x128 .f32) (hn : Sizes n)
  (r : Fin 512) (p : Fin 4) (l : Fin 32)

include hn in
theorem size_at4 : n (ix2 0 (at4 p l : Fin 128)) = (((size ⟨l.val / 2, by omega⟩ : ℕ) : ℝ) : EReal) := by
  rw [hn]
  have e : (⟨(at4 p l : Fin 128).val % 32 / 2, by omega⟩ : Fin 16) = ⟨l.val / 2, by omega⟩ := Fin.ext (by show (32 * p.val + l.val) % 32 / 2 = l.val / 2; omega)
  exact congrArg (fun i => (((size i : ℕ) : ℝ) : EReal)) e

include hs hn in
theorem pay22_at4 : k0_pay22 (X 0) (X 1) (X 2) (X 3) s n (ix2 r (at4 p l : Fin 128)) = scaled (X p (ix2 r 0)) l := by
  pointwise [k0_pay22]
  rw [size_at4 n hn, spread_apply X s hs r _ p 0 (by show (32 * p.val + l.val) / 32 % 4 = p.val; omega) (by show (32 * p.val + l.val) / 128 = 0; omega)]
  rfl
include hs hn in
theorem pay23_at4 : k0_pay23 (X 0) (X 1) (X 2) (X 3) s n (ix2 r (at4 p l : Fin 128)) = scaled (X p (ix2 r 1)) l := by
  pointwise [k0_pay23]
  rw [size_at4 n hn, spread_apply X s hs r _ p 1 (by show (128 + (32 * p.val + l.val)) / 32 % 4 = p.val; omega) (by show (128 + (32 * p.val + l.val)) / 128 = 1; omega)]
  rfl

include hs hn in
theorem fr_x : k0_pay26 (X 0) (X 1) (X 2) (X 3) s n (ix2 r (at4 p l : Fin 128)) = fr (scaled (X p (ix2 r 0)) l) := by
  pointwise [k0_pay26, k0_pay24]
  rw [pay22_at4 X s hs n hn]; rfl
include hs hn in
theorem fr_y : k0_pay27 (X 0) (X 1) (X 2) (X 3) s n (ix2 r (at4 p l : Fin 128)) = fr (scaled (X p (ix2 r 1)) l) := by
  pointwise [k0_pay27, k0_pay25]
  rw [pay23_at4 X s hs n hn]; rfl
include hs hn in
theorem pr_x : k0_pay28 (X 0) (X 1) (X 2) (X 3) s n (ix2 r (at4 p l : Fin 128)) = pr (scaled (X p (ix2 r 0)) l) := by
  pointwise [k0_pay28, k0_pay24]
  rw [pay22_at4 X s hs n hn]; rfl
include hs hn in
theorem pr_y : k0_pay29 (X 0) (X 1) (X 2) (X 3) s n (ix2 r (at4 p l : Fin 128)) = pr (scaled (X p (ix2 r 1)) l) := by
  pointwise [k0_pay29, k0_pay25]
  rw [pay23_at4 X s hs n hn]; rfl
include hs hn in
theorem pr_xy : k0_pay30 (X 0) (X 1) (X 2) (X 3) s n (ix2 r (at4 p l : Fin 128)) = prx (scaled (X p (ix2 r 0)) l) (scaled (X p (ix2 r 1)) l) := by
  pointwise [k0_pay30]
  rw [pr_x X s hs n hn, pr_y X s hs n hn]; rfl

end

/-- The odd lanes. -/
theorem mask_apply (j : Fin 128) : mask (ix2 0 j) = if j.val % 2 = 1 then 1#1 else 0#1 := by
  pointwise [mask, k0_pay35, k0_pay31, k0_pay32, k0_pay33, k0_pay34]
  revert j
  decide +kernel

theorem select_mask {α : Type} (j : Fin 128) (a b : α) : Scalar.select (mask (ix2 0 j)) a b = if j.val % 2 = 1 then a else b := by
  rw [mask_apply]
  split <;> rfl

theorem sel_apply (a b : EReal) (j : Fin 128) : sel (F := Ideal) a b (ix2 0 j) = if j.val % 2 = 1 then a else b := by
  pointwise [sel, k0_pay36]
  exact select_mask j a b

/-- A table entry picked by a lane's parity. -/
theorem ent_lane (t : Vec Ideal S2x4x2 .f32) (h : Fin 2) (v : Fin 4) (a b : ℕ) (ha : a = h.val) (hb : b = v.val) (p : Fin 4) (l : Fin 32) (i0 i1) :
    (if (at4 p l : Fin 128).val % 2 = 1 then ent t ![a, b, 1] i1 else ent t ![a, b, 0] i0) = t (ix3 h v ⟨l.val % 2, Nat.mod_lt _ (by norm_num)⟩) := by
  subst ha hb
  have key : ∀ (f : Fin 2) (i), ent t ![h.val, v.val, f.val] i = t (ix3 h v f) := fun f i => by
    refine congrArg t (funext fun a => ?_)
    match a with
    | ⟨0, _⟩ => exact Fin.ext (by show h.val + 1 * 0 = h.val; omega)
    | ⟨1, _⟩ => exact Fin.ext (by show v.val + 1 * 0 = v.val; omega)
    | ⟨2, _⟩ => exact Fin.ext (by show f.val + 1 * 0 = f.val; omega)
  have e : (at4 p l : Fin 128).val % 2 = l.val % 2 := by show (32 * p.val + l.val) % 2 = l.val % 2; omega
  rw [e]
  split_ifs with hl
  · rw [show (⟨l.val % 2, Nat.mod_lt _ (by norm_num)⟩ : Fin 2) = 1 from Fin.ext hl]; exact key 1 i1
  · rw [show (⟨l.val % 2, Nat.mod_lt _ (by norm_num)⟩ : Fin 2) = 0 from Fin.ext (by show l.val % 2 = 0; omega)]; exact key 0 i0

theorem pay40_apply (v41 v42 v48 v54 v59 : FVec Ideal S512x128 .f32) (v78 : IVec S1x128 1) (v83 v88 v93 v98 : FVec Ideal S1x128 .f32) (a b c d e f : EReal) (r : Fin 512) (j : Fin 128) :
    k0_pay40 v41 v42 v48 v54 v59 v78 v83 v88 v93 v98 a b c d e f (ix2 r j)
      = (1 - v42 (ix2 r j)) * ((1 - v41 (ix2 r j)) * v83 (ix2 0 j) + v41 (ix2 r j) * (v93 (ix2 0 j) + v48 (ix2 r j) * (Scalar.select (v78 (ix2 0 j)) c d - v93 (ix2 0 j))))
        + v42 (ix2 r j) * ((1 - v41 (ix2 r j)) * (v88 (ix2 0 j) + v54 (ix2 r j) * (Scalar.select (v78 (ix2 0 j)) a b - v88 (ix2 0 j)))
          + v41 (ix2 r j) * (v98 (ix2 0 j) + v59 (ix2 r j) * (Scalar.select (v78 (ix2 0 j)) e f - v98 (ix2 0 j)))) := by
  pointwise [k0_pay40]

/-- The features of one point: lane `l` reads grid size `l / 2` and the table's entry `l % 2`. -/
def pfeat (t : Vec Ideal S2x4x2 .f32) (x y : EReal) (l : Fin 32) : EReal :=
  kfeat (fun h v => t (ix3 h v ⟨l.val % 2, Nat.mod_lt _ (by norm_num)⟩)) (scaled x l) (scaled y l)

theorem feats_at4 (v : Vals Ideal) (hs : Spreads v.s) (hn : Sizes v.n) (X : Fin 4 → Vec Ideal S512x2 .f32) (r : Fin 512) (p : Fin 4) (l : Fin 32) :
    feats v (X 0) (X 1) (X 2) (X 3) (ix2 r (at4 p l : Fin 128)) = pfeat v.t (X p (ix2 r 0)) (X p (ix2 r 1)) l := by
  unfold feats
  rw [pay40_apply, fr_x X v.s hs v.n hn, fr_y X v.s hs v.n hn, pr_x X v.s hs v.n hn, pr_y X v.s hs v.n hn, pr_xy X v.s hs v.n hn]
  simp only [sel_apply, select_mask]
  rw [ent_lane v.t 0 0 0 0 rfl rfl, ent_lane v.t 0 1 0 1 rfl rfl, ent_lane v.t 0 2 0 2 rfl rfl, ent_lane v.t 0 3 0 3 rfl rfl, ent_lane v.t 1 1 1 1 rfl rfl, ent_lane v.t 1 2 1 2 rfl rfl, ent_lane v.t 1 3 1 3 rfl rfl]
  rfl

end Cert.Proof.Ring8

end
-- ==== Proof.Diag.lean ====
/-
  The four matrices a grid point assembles, entry by entry: four copies of a layer's weights down the diagonal.
-/
module

public import proofs.«01_k».proof.Proof.Tile
public import proofs.«01_k».proof.Proof.Net

@[expose] public section

noncomputable section

namespace Cert.Proof.Ring8

open Cert.KernelIdeal Cert.KernelIdeal.Gen
open Idealize.ShloMosaic Cert.Proof.Net

section Part
variable {A B : ℕ}

/-- A store of block `n` of the diagonal, read at position `(i, k)` of block `(p, q)`. -/
theorem canon_part (n p q : Fin 4) (i : Fin A) (k : Fin B) (inb : ∀ a, (![A * n.val, B * n.val] : Fin 2 → ℕ) a + (![A, B] : Fin 2 → ℕ) a ≤ (⟨2, ![4 * A, 4 * B]⟩ : Shape).size a)
    (g : (⟨2, ![A, B]⟩ : Shape).Idx → EReal) (L : List (View.Piece (Elt Ideal) ⟨2, ![4 * A, 4 * B]⟩ .f32)) :
    View.canon (⟨Rect.unit (s := ⟨2, ![4 * A, 4 * B]⟩) ![A * n.val, B * n.val] ![A, B] inb, g⟩ :: L) (ix2 (at4 p i) (at4 q k))
      = if p = n ∧ q = n then g (ix2 i k) else View.canon L (ix2 (at4 p i) (at4 q k)) := by
  by_cases h : p = n ∧ q = n
  · rw [if_pos h]
    rw [h.1, h.2]
    have e : ix2 (at4 n i) (at4 n k) = (Rect.unit (s := ⟨2, ![4 * A, 4 * B]⟩) ![A * n.val, B * n.val] ![A, B] inb).emb (ix2 i k) :=
      funext (Fin.forall_fin_two.mpr ⟨Fin.ext (by show A * n.val + i.val = A * n.val + 1 * i.val; omega), Fin.ext (by show B * n.val + k.val = B * n.val + 1 * k.val; omega)⟩)
    rw [e]
    exact View.canon_cons_emb (Rect.unit (s := ⟨2, ![4 * A, 4 * B]⟩) ![A * n.val, B * n.val] ![A, B] inb) g L (ix2 i k)
  · rw [if_neg h]
    refine View.canon_cons_of_not_mem _ L fun hm => h ?_
    have hm' := (Rect.mem_set_unit (inb := inb)).1 hm
    have h0 : A * n.val ≤ A * p.val + i.val ∧ A * p.val + i.val < A * n.val + A := hm' 0
    have h1 : B * n.val ≤ B * q.val + k.val ∧ B * q.val + k.val < B * n.val + B := hm' 1
    have hi := i.isLt
    have hk := k.isLt
    have key : ∀ (C u v w : ℕ), w < C → C * u ≤ C * v + w → C * v + w < C * u + C → v = u := fun C u v w hw h h' => by
      have a1 : u < v + 1 := by
        by_contra hc
        have := Nat.mul_le_mul_left C (by omega : v + 1 ≤ u)
        rw [Nat.mul_add] at this; omega
      have a2 : v < u + 1 := by
        by_contra hc
        have := Nat.mul_le_mul_left C (by omega : u + 1 ≤ v)
        rw [Nat.mul_add] at this; omega
      omega
    exact ⟨Fin.ext (key A _ _ _ hi h0.1 h0.2), Fin.ext (key B _ _ _ hk h1.1 h1.2)⟩

/-- The store of zeros underneath. -/
theorem canon_zero (inb : ∀ a, (![0, 0] : Fin 2 → ℕ) a + (![4 * A, 4 * B] : Fin 2 → ℕ) a ≤ (⟨2, ![4 * A, 4 * B]⟩ : Shape).size a)
    (z : (⟨2, ![4 * A, 4 * B]⟩ : Shape).Idx → EReal) (a : Fin (4 * A)) (b : Fin (4 * B)) :
    View.canon (Val := Elt Ideal) (e := .f32) [⟨Rect.unit (s := ⟨2, ![4 * A, 4 * B]⟩) ![0, 0] ![4 * A, 4 * B] inb, z⟩] (ix2 a b) = z (ix2 a b) := by
  have e : ix2 a b = (Rect.unit (s := ⟨2, ![4 * A, 4 * B]⟩) ![0, 0] ![4 * A, 4 * B] inb).emb (ix2 a b) :=
    funext (Fin.forall_fin_two.mpr ⟨Fin.ext (by show a.val = 0 + 1 * a.val; omega), Fin.ext (by show b.val = 0 + 1 * b.val; omega)⟩)
  conv_lhs => rw [e]
  exact View.canon_cons_emb (Val := Elt Ideal) (e := .f32) (Rect.unit (s := ⟨2, ![4 * A, 4 * B]⟩) ![0, 0] ![4 * A, 4 * B] inb) z [] (ix2 a b)

/-- The four blocks over zeros. -/
theorem canon_diag (i0 i1 i2 i3 i4) (g : (⟨2, ![A, B]⟩ : Shape).Idx → EReal) (z : (⟨2, ![4 * A, 4 * B]⟩ : Shape).Idx → EReal) (hz : ∀ a b, z (ix2 a b) = 0) :
    IsDiag (fun i k => g (ix2 i k)) fun a b => View.canon (Val := Elt Ideal) (e := .f32)
      [⟨Rect.unit (s := ⟨2, ![4 * A, 4 * B]⟩) ![A * (3 : Fin 4).val, B * (3 : Fin 4).val] ![A, B] i3, g⟩,
        ⟨Rect.unit (s := ⟨2, ![4 * A, 4 * B]⟩) ![A * (2 : Fin 4).val, B * (2 : Fin 4).val] ![A, B] i2, g⟩,
        ⟨Rect.unit (s := ⟨2, ![4 * A, 4 * B]⟩) ![A * (1 : Fin 4).val, B * (1 : Fin 4).val] ![A, B] i1, g⟩,
        ⟨Rect.unit (s := ⟨2, ![4 * A, 4 * B]⟩) ![A * (0 : Fin 4).val, B * (0 : Fin 4).val] ![A, B] i0, g⟩,
        ⟨Rect.unit (s := ⟨2, ![4 * A, 4 * B]⟩) ![0, 0] ![4 * A, 4 * B] i4, z⟩] (ix2 a b) := by
  intro p q i k
  show View.canon _ (ix2 (at4 p i) (at4 q k)) = _
  rw [canon_part, canon_part, canon_part, canon_part, canon_zero, hz]
  fin_cases p <;> fin_cases q <;> simp

end Part

theorem diag1_isDiag (w : Vec Ideal S64x32 .f32) : IsDiag (N := 64) (K := 32) (fun i k => w (ix2 i k)) (fun a b => diag1 w (ix2 a b)) := by
  have h := canon_diag (A := 64) (B := 32) inb_S256x128_S64x32_0_0 inb_S256x128_S64x32_64_32 inb_S256x128_S64x32_128_64 inb_S256x128_S64x32_192_96
    inb_S256x128_S256x128_0_0 (k0_pay5 w) (k0_pay1 (F := Ideal)) (fun a b => by pointwise [k0_pay1])
  have e : ∀ i k, k0_pay5 w (ix2 i k) = w (ix2 i k) := fun i k => by pointwise [k0_pay5]
  simp only [e] at h
  exact h
theorem diag2_isDiag (w : Vec Ideal S64x64 .f32) : IsDiag (N := 64) (K := 64) (fun i k => w (ix2 i k)) (fun a b => diag2 w (ix2 a b)) := by
  have h := canon_diag (A := 64) (B := 64) inb_S256x256_S64x64_0_0 inb_S256x256_S64x64_64_64 inb_S256x256_S64x64_128_128 inb_S256x256_S64x64_192_192
    inb_S256x256_S256x256_0_0 (k0_pay6 w) (k0_pay2 (F := Ideal)) (fun a b => by pointwise [k0_pay2])
  have e : ∀ i k, k0_pay6 w (ix2 i k) = w (ix2 i k) := fun i k => by pointwise [k0_pay6]
  simp only [e] at h
  exact h
theorem diag4_isDiag (w : Vec Ideal S3x64 .f32) : IsDiag (N := 3) (K := 64) (fun i k => w (ix2 i k)) (fun a b => diag4 w (ix2 a b)) := by
  have h := canon_diag (A := 3) (B := 64) inb_S12x256_S3x64_0_0 inb_S12x256_S3x64_3_64 inb_S12x256_S3x64_6_128 inb_S12x256_S3x64_9_192
    inb_S12x256_S12x256_0_0 (k0_pay8 w) (k0_pay4 (F := Ideal)) (fun a b => by pointwise [k0_pay4])
  have e : ∀ i k, k0_pay8 w (ix2 i k) = w (ix2 i k) := fun i k => by pointwise [k0_pay8]
  simp only [e] at h
  exact h

end Cert.Proof.Ring8

end
-- ==== Proof.Point.lean ====
/-
  One point's three results: what the kernel's block of results holds at the point's row.
-/
module

public import proofs.«01_k».proof.Proof.Lanes
public import proofs.«01_k».proof.Proof.Diag

@[expose] public section

noncomputable section

namespace Cert.Proof.Ring8

open Cert.KernelIdeal Cert.KernelIdeal.Gen
open Idealize.ShloMosaic Cert.Proof.Net

/-- The rows the kernel multiplies by, by row and column. -/
abbrev rows {A B : ℕ} (w : (⟨2, ![A, B]⟩ : Shape).Idx → EReal) (i : Fin A) (k : Fin B) : EReal := w (ix2 i k)
abbrev row0 {B : ℕ} (b : (⟨2, ![1, B]⟩ : Shape).Idx → EReal) (k : Fin B) : EReal := b (ix2 0 k)

/-- The last layer's sums, as layers of the network over the 128 lanes. -/
theorem pay41_apply (f : FVec Ideal S512x128 .f32) (d1 : Vec Ideal S256x128 .f32) (b1 : Vec Ideal S1x64 .f32) (d2 : Vec Ideal S256x256 .f32)
    (b2 : Vec Ideal S1x64 .f32) (d3 : Vec Ideal S256x256 .f32) (b3 : Vec Ideal S1x64 .f32) (d4 : Vec Ideal S12x256 .f32) (r : Fin 512) (j : Fin 12) :
    k0_pay41 f d1 b1 d2 b2 d3 b3 d4 (ix2 r j)
      = ∑ k : Fin 256, lrelu (dense (rows d3) (rep (N := 64) (row0 b3)) (fun k : Fin 256 => lrelu (dense (rows d2) (rep (N := 64) (row0 b2))
          (fun k : Fin 256 => lrelu (dense (rows d1) (rep (N := 64) (row0 b1)) (fun k : Fin 128 => f (ix2 r k)) k)) k)) k) * d4 (ix2 j k) := by
  pointwise [k0_pay41]
  rfl

/-- One point's results: the network on its features. -/
def pointOut (v : Vals Ideal) (x y : EReal) (i : Fin 3) : EReal :=
  net (rows v.w1) (row0 v.b1) (rows v.w2) (row0 v.b2) (rows v.w3) (row0 v.b3) (rows v.w4) (row0 v.b4) (pfeat v.t x y) i

/-- The last layer with its bias and the cut at zero, at part `p` of the lanes. -/
theorem layers_at4 (v : Vals Ideal) (hs : Spreads v.s) (hn : Sizes v.n) (X : Fin 4 → Vec Ideal S512x2 .f32) (r : Fin 512) (p : Fin 4) (i : Fin 3) :
    max (layers v (X 0) (X 1) (X 2) (X 3) (ix2 r (at4 p i : Fin 12)) + v.b4 (ix2 0 i)) 0 = pointOut v (X p (ix2 r 0)) (X p (ix2 r 1)) i := by
  have h := net_diag (rows v.w1) (row0 v.b1) (rows v.w2) (row0 v.b2) (rows v.w3) (row0 v.b3) (rows v.w4) (row0 v.b4)
    (fun a b => diag1 v.w1 (ix2 a b)) (rep (row0 v.b1)) (fun a b => diag2 v.w2 (ix2 a b)) (rep (row0 v.b2)) (fun a b => diag2 v.w3 (ix2 a b)) (rep (row0 v.b3))
    (fun a b => diag4 v.w4 (ix2 a b)) (rep (row0 v.b4)) (diag1_isDiag v.w1) (rep_at4 _) (diag2_isDiag v.w2) (rep_at4 _) (diag2_isDiag v.w3) (rep_at4 _)
    (diag4_isDiag v.w4) (rep_at4 _) (fun k => feats v (X 0) (X 1) (X 2) (X 3) (ix2 r k)) p i
  have e : (fun k : Fin 32 => feats v (X 0) (X 1) (X 2) (X 3) (ix2 r (at4 p k))) = pfeat v.t (X p (ix2 r 0)) (X p (ix2 r 1)) :=
    funext fun l => feats_at4 v hs hn X r p l
  unfold pointOut
  rw [← e, ← h]
  unfold layers
  rw [pay41_apply]
  unfold dense
  rw [rep_at4]

/-- Point `p` of group `r` of a block. -/
theorem pay_out (v : Vals Ideal) (hs : Spreads v.s) (hn : Sizes v.n) (X : Fin 4 → Vec Ideal S512x2 .f32) (r : Fin 512) (i : Fin 3) :
    k0_pay43 (layers v (X 0) (X 1) (X 2) (X 3)) v.b4 (ix2 r i) = pointOut v (X 0 (ix2 r 0)) (X 0 (ix2 r 1)) i
    ∧ k0_pay44 (layers v (X 0) (X 1) (X 2) (X 3)) v.b4 (ix2 r i) = pointOut v (X 1 (ix2 r 0)) (X 1 (ix2 r 1)) i
    ∧ k0_pay45 (layers v (X 0) (X 1) (X 2) (X 3)) v.b4 (ix2 r i) = pointOut v (X 2 (ix2 r 0)) (X 2 (ix2 r 1)) i
    ∧ k0_pay46 (layers v (X 0) (X 1) (X 2) (X 3)) v.b4 (ix2 r i) = pointOut v (X 3 (ix2 r 0)) (X 3 (ix2 r 1)) i := by
  rw [← layers_at4 v hs hn X r 0 i, ← layers_at4 v hs hn X r 1 i, ← layers_at4 v hs hn X r 2 i, ← layers_at4 v hs hn X r 3 i]
  generalize layers v (X 0) (X 1) (X 2) (X 3) = u
  refine ⟨?_, ?_, ?_, ?_⟩
  · pointwise [k0_pay43, k0_pay42]
    have e : ∀ h, (⟨i.val, h⟩ : Fin 12) = at4 0 i := fun h => Fin.ext (by show i.val = 3 * 0 + i.val; omega)
    rw [e]
  · pointwise [k0_pay44, k0_pay42]
    rfl
  · pointwise [k0_pay45, k0_pay42]
    show max (u (ix2 r (at4 2 i)) + rep (N := 3) (row0 v.b4) (at4 2 i)) 0 = _
    rw [rep_at4]
  · pointwise [k0_pay46, k0_pay42]
    show max (u (ix2 r (at4 3 i)) + rep (N := 3) (row0 v.b4) (at4 3 i)) 0 = _
    rw [rep_at4]

/-- The four strided loads read four rows in turn. -/
theorem load_row (x : Vec Ideal S2048x2 .f32) (a : Fin 2048) (r : Fin 512) (c : Fin 2) :
    (a.val = 4 * r.val → x (xR0.idx (ix2 r c : S512x2.Idx)) = x (ix2 a c)) ∧ (a.val = 4 * r.val + 1 → x (xR1.idx (ix2 r c : S512x2.Idx)) = x (ix2 a c))
    ∧ (a.val = 4 * r.val + 2 → x (xR2.idx (ix2 r c : S512x2.Idx)) = x (ix2 a c)) ∧ (a.val = 4 * r.val + 3 → x (xR3.idx (ix2 r c : S512x2.Idx)) = x (ix2 a c)) := by
  have hc : 0 + 1 * c.val = c.val := by omega
  refine ⟨fun h => congrArg x ?_, fun h => congrArg x ?_, fun h => congrArg x ?_, fun h => congrArg x ?_⟩ <;>
    refine funext (Fin.forall_fin_two.mpr ⟨Fin.ext ?_, Fin.ext hc⟩)
  · show 0 + 4 * r.val = a.val; omega
  · show 1 + 4 * r.val = a.val; omega
  · show 2 + 4 * r.val = a.val; omega
  · show 3 + 4 * r.val = a.val; omega

/-- The rows of the four stores are apart. -/
theorem not_mem_row (p : ℕ) (inb) (hpos) (y : S2048x3.Idx) (h : (y 0).val % 4 ≠ p % 4) :
    y ∉ (⟨(⟨![p, 0], S512x3.size, ![4, 1], inb⟩ : LoadRect S2048x3), hpos⟩ : Rect S2048x3).set := by
  intro hm
  rw [← Rect.map_emb_univ] at hm
  obtain ⟨z, _, hz⟩ := Finset.mem_map.1 hm
  have h0 : p + 4 * (z 0).val = (y 0).val := congrArg (fun w : S2048x3.Idx => (w 0).val) hz
  omega

/-- Four stores to every fourth row, read back. -/
theorem canon_rows (g0 g1 g2 g3 : S512x3.Idx → EReal) (a : Fin 2048) (r : Fin 512) (i : Fin 3) (p : Fin 4) (h : a.val = 4 * r.val + p.val) :
    View.canon (Val := Elt Ideal) (e := .f32) [⟨oR3, g3⟩, ⟨oR2, g2⟩, ⟨oR1, g1⟩, ⟨oR0, g0⟩] (ix2 a i) = ![g0, g1, g2, g3] p (ix2 r i) := by
  have hp := p.isLt
  have n1 : p.val ≠ 1 → (ix2 a i : S2048x3.Idx) ∉ oR1.set := fun hn => not_mem_row 1 _ _ _ (by show a.val % 4 ≠ 1 % 4; omega)
  have n2 : p.val ≠ 2 → (ix2 a i : S2048x3.Idx) ∉ oR2.set := fun hn => not_mem_row 2 _ _ _ (by show a.val % 4 ≠ 2 % 4; omega)
  have n3 : p.val ≠ 3 → (ix2 a i : S2048x3.Idx) ∉ oR3.set := fun hn => not_mem_row 3 _ _ _ (by show a.val % 4 ≠ 3 % 4; omega)
  have hit : ∀ (R : Rect S2048x3) (g : R.shape.Idx → EReal) (L : List (View.Piece (Elt Ideal) S2048x3 .f32)) (z : R.shape.Idx), R.emb z = ix2 a i →
      View.canon (Val := Elt Ideal) (e := .f32) (⟨R, g⟩ :: L) (ix2 a i) = g z := fun R g L z e => by
    rw [← e]; exact View.canon_cons_emb R g L z
  have miss : ∀ (R : Rect S2048x3) (g : R.shape.Idx → EReal) (L : List (View.Piece (Elt Ideal) S2048x3 .f32)), (ix2 a i : S2048x3.Idx) ∉ R.set →
      View.canon (Val := Elt Ideal) (e := .f32) (⟨R, g⟩ :: L) (ix2 a i) = View.canon L (ix2 a i) := fun R g L hn => View.canon_cons_of_not_mem ⟨R, g⟩ L hn
  match p, h, n1, n2, n3 with
  | 0, h, n1, n2, n3 => exact (miss oR3 g3 _ (n3 (by decide))).trans ((miss oR2 g2 _ (n2 (by decide))).trans ((miss oR1 g1 _ (n1 (by decide))).trans (hit oR0 g0 _ _ (emb_oR0 (ix2 a i) r h))))
  | 1, h, n1, n2, n3 => exact (miss oR3 g3 _ (n3 (by decide))).trans ((miss oR2 g2 _ (n2 (by decide))).trans (hit oR1 g1 _ _ (emb_oR1 (ix2 a i) r h)))
  | 2, h, n1, n2, n3 => exact (miss oR3 g3 _ (n3 (by decide))).trans (hit oR2 g2 _ _ (emb_oR2 (ix2 a i) r h))
  | 3, h, n1, n2, n3 => exact hit oR3 g3 _ _ (emb_oR3 (ix2 a i) r h)

/-- A block of results, row by row. -/
theorem tile_apply (v : Vals Ideal) (hs : Spreads v.s) (hn : Sizes v.n) (x : Vec Ideal S2048x2 .f32) (a : Fin 2048) (i : Fin 3) :
    tile v x (ix2 a i) = pointOut v (x (ix2 a 0)) (x (ix2 a 1)) i := by
  have ha := a.isLt
  have hr : a.val / 4 < 512 := by omega
  obtain ⟨p0, p1, p2, p3⟩ := pay_out v hs hn ![fun j => x (xR0.idx j), fun j => x (xR1.idx j), fun j => x (xR2.idx j), fun j => x (xR3.idx j)] ⟨a.val / 4, hr⟩ i
  obtain ⟨a0, a1, a2, a3⟩ := load_row x a ⟨a.val / 4, hr⟩ 0
  obtain ⟨b0, b1, b2, b3⟩ := load_row x a ⟨a.val / 4, hr⟩ 1
  have hl : a.val % 4 < 4 := Nat.mod_lt _ (by norm_num)
  have ho : a.val = 4 * (a.val / 4) + a.val % 4 := by omega
  refine (canon_rows _ _ _ _ a ⟨a.val / 4, hr⟩ i ⟨a.val % 4, hl⟩ ho).trans ?_
  generalize hq : (⟨a.val % 4, hl⟩ : Fin 4) = q
  have hq' : a.val = 4 * (a.val / 4) + q.val := by rw [← hq]; exact ho
  match q, hq' with
  | 0, e => rw [← a0 e, ← b0 e]; exact p0
  | 1, e => rw [← a1 e, ← b1 e]; exact p1
  | 2, e => rw [← a2 e, ← b2 e]; exact p2
  | 3, e => rw [← a3 e, ← b3 e]; exact p3

end Cert.Proof.Ring8

end
-- ==== Proof.Windows.lean ====
/-
  The arrays the kernel's windows read, in terms of the launch's arguments, and the kernel's result, point by point.
-/
module

public import proofs.«01_k».proof.Proof.Launch
public import proofs.«01_k».proof.Proof.Point

@[expose] public section

noncomputable section

namespace Cert.Proof.Ring8

open Cert.KernelIdeal Cert.KernelIdeal.Gen
open Idealize.ShloMosaic Idealize.ShloMosaic.TcCoe Idealize.ShloMosaic.Tactic Cert.Proof.Net Cert.Proof.Words Cert.Proof.Feature

/-! ## The two constant arrays -/

/-- The words of the sixteen grid sizes. -/
def bits : Fin 16 → BitVec 32 := ![0x41800000#32, 0x41880000#32, 0x41980000#32, 0x41A80000#32, 0x41B80000#32, 0x41C80000#32, 0x41D80000#32, 0x41F00000#32,
  0x42040000#32, 0x42100000#32, 0x42200000#32, 0x42300000#32, 0x42400000#32, 0x42540000#32, 0x42680000#32, 0x42800000#32]

theorem lit0_apply : ∀ j : Fin 128, lit0 j = bits ⟨j.val % 32 / 2, by omega⟩ := by decide +kernel
theorem bits_small : ∀ l : Fin 16, Small (bits l) ∧ mant (bits l) = size l * 2 ^ (150 - expo (bits l)) := by decide +kernel
theorem bits_size (l : Fin 16) : Ideal.ofBits .f32 (bits l) = ((size l : ℝ) : EReal) := ofBits_nat _ _ (bits_small l).1 (bits_small l).2

theorem lit1_apply : ∀ (k : Fin 8) (j : Fin 256), lit1 ⟨256 * k.val + j.val, by omega⟩ = if k.val = 2 * (j.val / 32 % 4) + j.val / 128 then 0x3F800000#32 else 0#32 := by
  decide +kernel

theorem sizes_lit : Sizes fun i => Ideal.ofBits .f32 (lit0 (S1x128.rowMajor i)) := by
  intro j
  have e : S1x128.rowMajor (ix2 (0 : Fin 1) j) = (j : Fin 128) := by
    apply Fin.ext
    refine (Shape.rowMajor_val_two _).trans ?_
    show 0 * 128 + j.val = j.val
    omega
  show Ideal.ofBits .f32 (lit0 (S1x128.rowMajor (ix2 (0 : Fin 1) j))) = _
  rw [e, lit0_apply, bits_size]
theorem spreads_lit : Spreads fun i => Ideal.ofBits .f32 (lit1 (S8x256.rowMajor i)) := by
  intro k j
  have e : S8x256.rowMajor (ix2 k j) = (⟨256 * k.val + j.val, by omega⟩ : Fin 2048) := by
    apply Fin.ext
    refine (Shape.rowMajor_val_two _).trans ?_
    show k.val * 256 + j.val = 256 * k.val + j.val
    omega
  show Ideal.ofBits .f32 (lit1 (S8x256.rowMajor (ix2 k j))) = _
  rw [e, lit1_apply]
  split_ifs
  · exact Ideal.ofBits_one_f32
  · exact Ideal.ofBits_zero_f32

/-! ## What the windows read -/

variable (m : (ℓ : Loc nD τ sig) → Buf (Elt Ideal) ℓ) (c : Dev nD)

/-- An argument, as launched. -/
abbrev arg (b : Ref sig .tc) : Buf (Elt Ideal) ((c : Thread nD τ).loc b) := m ((c : Thread nD τ).loc b)

theorem V_cst : V m c main_cst = fun i : S1x128.Idx => Ideal.ofBits .f32 (lit0 (S1x128.rowMajor i)) := by
  unfold V
  after_results
  rfl
theorem V_cst_0 : V m c main_cst_0 = fun i : S8x256.Idx => Ideal.ofBits .f32 (lit1 (S8x256.rowMajor i)) := by
  unfold V
  after_results
  rfl
theorem V_v0 : V m c main_v0 = extractStridedSlice S2x4x2 ![0, 0, 0] (arg m c main_arg1) slices_S16x262144x2_S2x4x2_0_0_0 := by
  unfold V
  after_results
theorem V_v1 : V m c main_v1 = shapeCast S1x64 (arg m c main_arg3) shapeCasts_S64_S1x64 := by
  unfold V
  after_results
  rfl
theorem V_v2 : V m c main_v2 = shapeCast S1x64 (arg m c main_arg5) shapeCasts_S64_S1x64 := by
  unfold V
  after_results
  rfl
theorem V_v3 : V m c main_v3 = shapeCast S1x64 (arg m c main_arg7) shapeCasts_S64_S1x64 := by
  unfold V
  after_results
  rfl
theorem V_v4 : V m c main_v4 = shapeCast S1x3 (arg m c main_arg9) shapeCasts_S3_S1x3 := by
  unfold V
  after_results
  rfl

theorem vals_spreads : Spreads (vals m c).s := by
  have h := spreads_lit
  rw [← V_cst_0 m c] at h
  exact h
theorem vals_sizes : Sizes (vals m c).n := by
  have h := sizes_lit
  rw [← V_cst m c] at h
  exact h

/-- The ten arguments, as arrays of reals with infinities. -/
abbrev a0 : S16384x2.Idx → EReal := arg m c main_arg0
abbrev a1 : S16x262144x2.Idx → EReal := arg m c main_arg1
abbrev a2 : S64x32.Idx → EReal := arg m c main_arg2
abbrev a3 : S64.Idx → EReal := arg m c main_arg3
abbrev a4 : S64x64.Idx → EReal := arg m c main_arg4
abbrev a5 : S64.Idx → EReal := arg m c main_arg5
abbrev a6 : S64x64.Idx → EReal := arg m c main_arg6
abbrev a7 : S64.Idx → EReal := arg m c main_arg7
abbrev a8 : S3x64.Idx → EReal := arg m c main_arg8
abbrev a9 : S3.Idx → EReal := arg m c main_arg9

theorem vals_t (h : Fin 2) (v : Fin 4) (l : Fin 32) : (vals m c).t (ix3 h v ⟨l.val % 2, Nat.mod_lt _ (by norm_num)⟩) = tab (a1 m c) l h v := by
  show V m c main_v0 (ix3 h v _) = _
  rw [V_v0]
  pointwise
  rfl
theorem vals_b1 : row0 (B := 64) (vals m c).b1 = fun k => a3 m c (ix1 k) := by
  funext k
  show V m c main_v1 (ix2 0 k) = _
  rw [V_v1]
  pointwise
theorem vals_b2 : row0 (B := 64) (vals m c).b2 = fun k => a5 m c (ix1 k) := by
  funext k
  show V m c main_v2 (ix2 0 k) = _
  rw [V_v2]
  pointwise
theorem vals_b3 : row0 (B := 64) (vals m c).b3 = fun k => a7 m c (ix1 k) := by
  funext k
  show V m c main_v3 (ix2 0 k) = _
  rw [V_v3]
  pointwise
theorem vals_b4 : row0 (B := 3) (vals m c).b4 = fun k => a9 m c (ix1 k) := by
  funext k
  show V m c main_v4 (ix2 0 k) = _
  rw [V_v4]
  pointwise

theorem xval_apply (X : S16384x2.Idx → EReal) (b : Fin 8) (a : Fin 2048) (k : Fin 2) (R : Fin 16384) (hR : R.val = 2048 * b.val + a.val) :
    xval (F := Ideal) c X b (ix2 a k) = X (ix2 R k) := by
  show X _ = X _
  refine congrArg X (funext (Fin.forall_fin_two.mpr ⟨Fin.ext ?_, Fin.ext ?_⟩))
  · show 2048 * b.val + 1 * a.val = R.val; omega
  · show 0 + 1 * k.val = k.val; omega

/-- The kernel's result at point `R`: the network on the kernel's features. -/
theorem out_apply (R : Fin 16384) (i : Fin 3) : (outArr c (V m c main_arg0) (vals m c) : S16384x3.Idx → EReal) (ix2 R i)
    = net (rows (a2 m c)) (fun k => a3 m c (ix1 k)) (rows (a4 m c)) (fun k => a5 m c (ix1 k)) (rows (a6 m c)) (fun k => a7 m c (ix1 k))
        (rows (a8 m c)) (fun k => a9 m c (ix1 k))
        (fun l => kfeat (tab (a1 m c) l) (scaled (a0 m c (ix2 R 0)) l) (scaled (a0 m c (ix2 R 1)) l)) i := by
  have hb : R.val / 2048 < 8 := by omega
  have ha : R.val % 2048 < 2048 := by omega
  have hR : R.val = 2048 * (⟨R.val / 2048, hb⟩ : Fin 8).val + (⟨R.val % 2048, ha⟩ : Fin 2048).val := by show R.val = 2048 * (R.val / 2048) + R.val % 2048; omega
  have h1 := outArr_at c (V m c main_arg0) (vals m c) ⟨R.val / 2048, hb⟩ (ix2 ⟨R.val % 2048, ha⟩ i) (ix2 R i) hR rfl
  refine h1.trans ?_
  rw [tile_apply (vals m c) (vals_spreads m c) (vals_sizes m c), xval_apply c _ _ _ 0 R hR, xval_apply c _ _ _ 1 R hR]
  unfold pointOut
  rw [vals_b1, vals_b2, vals_b3, vals_b4, V_main_arg0]
  have e1 : rows (A := 64) (B := 32) (vals m c).w1 = rows (a2 m c) := congrArg rows (V_main_arg2 m c)
  have e2 : rows (A := 64) (B := 64) (vals m c).w2 = rows (a4 m c) := congrArg rows (V_main_arg4 m c)
  have e3 : rows (A := 64) (B := 64) (vals m c).w3 = rows (a6 m c) := congrArg rows (V_main_arg6 m c)
  have e4 : rows (A := 3) (B := 64) (vals m c).w4 = rows (a8 m c) := congrArg rows (V_main_arg8 m c)
  rw [e1, e2, e3, e4]
  have ef : pfeat (vals m c).t (a0 m c (ix2 R 0)) (a0 m c (ix2 R 1)) = fun l => kfeat (tab (a1 m c) l) (scaled (a0 m c (ix2 R 0)) l) (scaled (a0 m c (ix2 R 1)) l) := by
    funext l
    unfold pfeat
    rw [show (fun h v => (vals m c).t (ix3 h v ⟨l.val % 2, Nat.mod_lt _ (by norm_num)⟩)) = tab (a1 m c) l from funext fun h => funext fun v => vals_t m c h v l]
  rw [← ef]

end Cert.Proof.Ring8

end
-- ==== Proof.Lookup.lean ====
/-
  The reference's table lookup: entry `(r, l, v, f)` is the table's entry at the row and the column that the index array holds
  at `(r, l, v)`, and at position `f`.
-/
module

public import proofs.«01_k».proof.Proof.Gen.ReferenceIdeal.Run
public import Idealize.ShloMosaic.Lib.Pointwise

@[expose] public section

noncomputable section

namespace Cert.Proof.Ref

open Cert.ReferenceIdeal Cert.ReferenceIdeal.Gen
open Idealize.ShloMosaic

/-- The lookup's axes: the result's last axis is the table's, its others are the index array's. -/
abbrev lookup : GatherDims S16x262144x2 S16384x16x4x2 S16384x16x4x2 := gather_S16x262144x2_S16384x16x4x2_S16384x16x4x2_3_01_n_n_01_3_112

/-- Where the index array is read. -/
theorem lookup_at (r : Fin 16384) (l : Fin 16) (v : Fin 4) (f : Fin 2) (k : Fin 2) :
    lookup.siIdx (ix4 r l v f : S16384x16x4x2.Idx) k = (ix4 r l v k : S16384x16x4x2.Idx) := by
  funext b
  match b with
  | ⟨0, _⟩ => rfl
  | ⟨1, _⟩ => rfl
  | ⟨2, _⟩ => rfl
  | ⟨3, _⟩ => rfl

theorem lookup_apply {α : Type} (x : S16x262144x2.Idx → α) (idx : IVec S16384x16x4x2 32) (r : Fin 16384) (l : Fin 16) (v : Fin 4) (f : Fin 2)
    (row : Fin 16) (col : Fin 262144) (h0 : (idx (ix4 r l v 0)).toInt.toNat = row.val) (h1 : (idx (ix4 r l v 1)).toInt.toNat = col.val) :
    Host.gather lookup x idx (ix4 r l v f) = x (ix3 row col f) := by
  unfold Host.gather
  refine congrArg x (funext fun a => Fin.ext ?_)
  have hb : ∀ a', lookup.batchCoord (ix4 r l v f : S16384x16x4x2.Idx) a' = 0 := fun a' => lookup.batchCoord_eq_zero _ _ List.not_mem_nil
  show lookup.start (ix4 r l v f) idx a + lookup.batchCoord (ix4 r l v f) a + lookup.offCoord (ix4 r l v f) a = _
  rw [hb, Nat.add_zero]
  have k0 : (0 : Fin 3) ∉ lookup.sKept := by decide
  have k1 : (1 : Fin 3) ∉ lookup.sKept := by decide
  have m0 : (0 : Fin 3) ∈ lookup.startIndexMap := by decide
  have m1 : (1 : Fin 3) ∈ lookup.startIndexMap := by decide
  have m2 : (2 : Fin 3) ∉ lookup.startIndexMap := by decide
  match a with
  | ⟨0, _⟩ =>
    show lookup.start (ix4 r l v f) idx (0 : Fin 3) + lookup.offCoord (ix4 r l v f) (0 : Fin 3) = row.val
    rw [lookup.offCoord_eq_zero _ _ k0, Nat.add_zero]
    unfold GatherDims.start
    rw [dif_pos m0]
    have e := lookup_at r l v f 0
    refine (congrArg (fun z => min (idx z).toInt.toNat (16 - 1)) e).trans ?_
    show min (idx (ix4 r l v 0)).toInt.toNat (16 - 1) = row.val
    rw [h0]; omega
  | ⟨1, _⟩ =>
    show lookup.start (ix4 r l v f) idx (1 : Fin 3) + lookup.offCoord (ix4 r l v f) (1 : Fin 3) = col.val
    rw [lookup.offCoord_eq_zero _ _ k1, Nat.add_zero]
    unfold GatherDims.start
    rw [dif_pos m1]
    have e := lookup_at r l v f 1
    refine (congrArg (fun z => min (idx z).toInt.toNat (262144 - 1)) e).trans ?_
    show min (idx (ix4 r l v 1)).toInt.toNat (262144 - 1) = col.val
    rw [h1]; omega
  | ⟨2, _⟩ =>
    show lookup.start (ix4 r l v f) idx (2 : Fin 3) + lookup.offCoord (ix4 r l v f) (2 : Fin 3) = f.val
    unfold GatherDims.start
    rw [dif_neg m2, Nat.zero_add]
    rfl

end Cert.Proof.Ref

end
-- ==== Proof.Cells.lean ====
/-
  The reference's intermediate arrays at an index: scaled coordinates, fractions, and the row and column of each lookup.
-/
module

public import proofs.«01_k».proof.Proof.Gen.ReferenceIdeal.Run
public import proofs.«01_k».proof.Proof.Feature
public import Idealize.ShloMosaic.Lib.Pointwise
public import Idealize.ShloMosaic.Lib.Tactic.CleanTypes

@[expose] public section

set_option maxRecDepth 16384

noncomputable section

namespace Cert.Proof.Ref

open Cert.ReferenceIdeal Cert.ReferenceIdeal.Gen Cert.ReferenceIdeal.Value
open Idealize.ShloMosaic Cert.Proof.Words Cert.Proof.Parity Cert.Proof.Feature

variable (V0 : Valuation τ sig (Elt Ideal))

/-- The points, as the reference reads them. -/
abbrev pts : S16384x2.Idx → EReal := V0 (Proc.devRef .tc main_arg0)
/-- A coordinate scaled by grid size `l`. -/
def sc (x : EReal) (l : Fin 16) : EReal := x * (((size l : ℕ) : ℝ) : EReal)

theorem lit0_small : ∀ l : Fin 16, Small (lit0 l) ∧ size l * 2 ^ (150 - expo (lit0 l)) ≤ mant (lit0 l) ∧ mant (lit0 l) < (size l + 1) * 2 ^ (150 - expo (lit0 l)) := by
  decide +kernel
/-- The grid sizes: the integer parts of sixteen constants. -/
theorem lit0_size (l : Fin 16) : FloatOps.sitofp (F := Ideal) .f32 (FloatOps.fptosi (F := Ideal) (φ := .f32) 32 (Ideal.liftRound Int.floor (Ideal.ofBits .f32 (lit0 l)))) = (((size l : ℕ) : ℝ) : EReal) := by
  have h := lit0_small l
  rw [floor_ofBits _ _ h.1 h.2.1 h.2.2]
  have hs : size l ≤ 64 := size_le l
  show (((Ideal.fptosi 32 (((size l : ℕ) : ℝ) : EReal)).toInt : ℝ) : EReal) = _
  rw [fptosi_coe _ (Nat.cast_nonneg _) (by exact_mod_cast (by omega : size l < 2 ^ 31)), Nat.floor_natCast]
  have e : (BitVec.ofNat 32 (size l)).toInt = (size l : ℤ) := by
    rw [BitVec.toInt_eq_toNat_of_lt] <;> rw [BitVec.toNat_ofNat] <;> omega
  rw [e, Int.cast_natCast]

theorem v7_apply (r : Fin 16384) (c : Fin 2) (l : Fin 16) : (res_main_v7 V0 (ix3 r c l) : EReal) = sc (pts V0 (ix2 r c)) l := by
  unfold res_main_v7
  clean_types
  pointwise
  have e : (S16.rowMajor (ix1 l) : Fin 16) = l := Fin.ext (Shape.rowMajor_val_one _)
  rw [e, lit0_size]
  rfl

theorem lit2_apply : ∀ c : Fin 2, lit2 c = if c = 0 then 1#32 else 2654435761#32 := by decide +kernel

/-- Coordinate `c` of vertex `v` of a cell: the cell's own number or nothing. -/
def moves (c : Fin 2) (v : Fin 4) : Prop := if c = 0 then 2 ≤ v.val else v.val % 2 = 1
instance (c : Fin 2) (v : Fin 4) : Decidable (moves c v) := by unfold moves; infer_instance
def part (n : ℕ) (c : Fin 2) (v : Fin 4) : ℕ := if moves c v then n else 0

theorem lit1_moves : ∀ (c : Fin 2) (v : Fin 4), lit1 ⟨4 * c.val + v.val, by omega⟩ = if moves c v then 0x3F800000#32 else 0#32 := by
  decide +kernel

theorem v17_apply (r : Fin 16384) (c : Fin 2) (l : Fin 16) (v : Fin 4) (a : ℝ) (h0 : 0 ≤ a) (h1 : a < 2 ^ 31) (ha : sc (pts V0 (ix2 r c)) l = (a : EReal)) :
    (res_main_v17 V0 (ix4 r c l v) : BitVec 32) = IntOp.muli (BitVec.ofNat 32 (part ⌊a⌋₊ c v)) (if c = 0 then 1#32 else 2654435761#32) := by
  unfold res_main_v17
  clean_types
  pointwise
  have e1 : (S2x4.rowMajor (ix2 c v) : Fin 8) = (⟨4 * c.val + v.val, by omega⟩ : Fin 8) := by
    apply Fin.ext
    refine (Shape.rowMajor_val_two _).trans ?_
    show c.val * 4 + v.val = 4 * c.val + v.val
    omega
  have e2 : (S2.rowMajor (ix1 c) : Fin 2) = c := Fin.ext (Shape.rowMajor_val_one _)
  rw [e1, e2, lit1_moves, lit2_apply]
  have e7 := v7_apply V0 r c l
  rw [ha] at e7
  congr 1
  refine (congrArg (fun z : EReal => Ideal.fptosi 32 (z * Ideal.ofBits .f32 (if moves c v then 0x3F800000#32 else 0#32))) e7).trans ?_
  show Ideal.fptosi 32 ((a : EReal) * Ideal.ofBits .f32 (if moves c v then 0x3F800000#32 else 0#32)) = BitVec.ofNat 32 (part ⌊a⌋₊ c v)
  unfold part
  split_ifs
  · rw [Ideal.ofBits_one_f32, mul_one, fptosi_coe a h0 h1]
  · rw [Ideal.ofBits_zero_f32, mul_zero]
    have := fptosi_coe 0 le_rfl (by norm_num)
    rwa [Nat.floor_zero] at this

/-- The row the reference looks a vertex up in. -/
theorem v23_apply (r : Fin 16384) (l : Fin 16) (v : Fin 4) (a b : ℝ) (h0 : 0 ≤ a) (h1 : a < 2 ^ 31) (ha : sc (pts V0 (ix2 r 0)) l = (a : EReal))
    (h0' : 0 ≤ b) (h1' : b < 2 ^ 31) (hb : sc (pts V0 (ix2 r 1)) l = (b : EReal)) :
    (res_main_v23 V0 (ix3 r l v) : BitVec 32) = BitVec.ofNat 32 (par (part ⌊a⌋₊ 0 v + part ⌊b⌋₊ 1 v)).val := by
  unfold res_main_v23 res_main_call0_v4 res_main_call0_v2 res_main_call0_v0
  clean_types
  pointwise
  have hf : ∀ (x : ℝ) (c : Fin 2), 0 ≤ x → x < 2 ^ 31 → part ⌊x⌋₊ c v < 2 ^ 31 := fun x c hx hx' => by
    have : ⌊x⌋₊ < 2 ^ 31 := (Nat.floor_lt hx).2 (by exact_mod_cast hx')
    unfold part; split <;> omega
  have e := hash_eq (part ⌊a⌋₊ 0 v) (part ⌊b⌋₊ 1 v) (hf a 0 h0 h1) (hf b 1 h0' h1')
  refine Eq.trans ?_ e
  have ea := v17_apply V0 r 0 l v a h0 h1 ha
  have eb := v17_apply V0 r 1 l v b h0' h1' hb
  rw [if_pos rfl] at ea
  rw [if_neg (by decide)] at eb
  rw [← ea, ← eb]
  rfl

theorem v25_apply (v : Fin 4) : (res_main_v25 V0 (ix3 0 0 v) : BitVec 32) = BitVec.ofNat 32 v.val := by
  unfold res_main_v25
  clean_types
  pointwise

theorem v41_apply (r : Fin 16384) (c : Fin 2) (l : Fin 16) : (res_main_v41 V0 (ix3 r c l) : EReal) = fr (sc (pts V0 (ix2 r c)) l) := by
  unfold res_main_v41
  clean_types
  pointwise
  rw [v7_apply]
  rfl
theorem v43_apply (r : Fin 16384) (l : Fin 16) : (res_main_v43 V0 (ix2 r l) : EReal) = fr (sc (pts V0 (ix2 r 0)) l) := by
  rw [← v41_apply]
  unfold res_main_v43
  clean_types
  pointwise
theorem v47_apply (r : Fin 16384) (l : Fin 16) : (res_main_v47 V0 (ix2 r l) : EReal) = fr (sc (pts V0 (ix2 r 1)) l) := by
  rw [← v41_apply]
  unfold res_main_v47
  clean_types
  pointwise
theorem v45_apply (r : Fin 16384) (l : Fin 16) : (res_main_v45 V0 (ix2 r l) : EReal) = 1 - fr (sc (pts V0 (ix2 r 0)) l) := by
  rw [← v43_apply]
  unfold res_main_v45
  clean_types
  pointwise
theorem v49_apply (r : Fin 16384) (l : Fin 16) : (res_main_v49 V0 (ix2 r l) : EReal) = 1 - fr (sc (pts V0 (ix2 r 1)) l) := by
  rw [← v47_apply]
  unfold res_main_v49
  clean_types
  pointwise

end Cert.Proof.Ref

end
-- ==== Proof.RefValue.lean ====
/-
  The reference's result at a point: the network on the point's weighted lookups.
-/
module

public import proofs.«01_k».proof.Proof.Lookup
public import proofs.«01_k».proof.Proof.Cells
public import proofs.«01_k».proof.Proof.Net

@[expose] public section

set_option maxRecDepth 16384

noncomputable section

namespace Cert.Proof.Ref

open Cert.ReferenceIdeal Cert.ReferenceIdeal.Gen Cert.ReferenceIdeal.Value
open Idealize.ShloMosaic Cert.Proof.Words Cert.Proof.Parity Cert.Proof.Feature Cert.Proof.Net

variable (V0 : Valuation τ sig (Elt Ideal))

/-- The table, the weights and the biases, as the reference reads them. -/
abbrev tbl : S16x262144x2.Idx → EReal := V0 (Proc.devRef .tc main_arg1)
abbrev p2 : S64x32.Idx → EReal := V0 (Proc.devRef .tc main_arg2)
abbrev p3 : S64.Idx → EReal := V0 (Proc.devRef .tc main_arg3)
abbrev p4 : S64x64.Idx → EReal := V0 (Proc.devRef .tc main_arg4)
abbrev p5 : S64.Idx → EReal := V0 (Proc.devRef .tc main_arg5)
abbrev p6 : S64x64.Idx → EReal := V0 (Proc.devRef .tc main_arg6)
abbrev p7 : S64.Idx → EReal := V0 (Proc.devRef .tc main_arg7)
abbrev p8 : S3x64.Idx → EReal := V0 (Proc.devRef .tc main_arg8)
abbrev p9 : S3.Idx → EReal := V0 (Proc.devRef .tc main_arg9)

/-- A point is good where both its scaled coordinates are real, nonnegative and below `2 ^ 31`. -/
def Good (r : Fin 16384) : Prop := ∀ (c : Fin 2) (l : Fin 16), ∃ a : ℝ, 0 ≤ a ∧ a < 2 ^ 31 ∧ sc (pts V0 (ix2 r c)) l = (a : EReal)

/-- The column of a lookup is the vertex's number. -/
theorem col_eq (v : Fin 4) : (Scalar.select (IntOp.cmpi .slt (BitVec.ofNat 32 v.val) 0#32) (IntOp.addi (BitVec.ofNat 32 v.val) 262144#32) (BitVec.ofNat 32 v.val)).toInt.toNat = v.val := by
  revert v; decide

/-- The features of point `r`. -/
def rf (r : Fin 16384) (k : Fin 32) : EReal := rfeat (tab (tbl V0) k) (scaled (pts V0 (ix2 r 0)) k) (scaled (pts V0 (ix2 r 1)) k)

/-- A list index counted from the end where it is negative, of an array of extent `n`. -/
abbrev wrapped {s : Shape} (x : IVec s 32) (h : S_.BroadcastsInDim s (![] : Fin 0 → Fin s.rank)) (n : BitVec 32) : IVec s 32 :=
  select (cmpi .slt x (broadcastInDim s ![] h (constantI S_ 32 0#32))) (addi x (broadcastInDim s ![] h (constantI S_ 32 n))) x

/-- The index array of the lookups. -/
def cells : IVec S16384x16x4x2 32 :=
  concatenate S16384x16x4x2 3
    [⟨S16384x16x4x1, broadcastInDim S16384x16x4x1 ![0, 1, 2] bcast_S16384x16x4_S16384x16x4x1_0_1_2 (wrapped (res_main_v23 V0) bcast_S_S16384x16x4 16#32)⟩,
      ⟨S16384x16x4x1, broadcastInDim S16384x16x4x1 ![0, 1, 2] bcast_S16384x16x4_S16384x16x4x1_0_1_2
        (broadcastInDim S16384x16x4 ![0, 1, 2] bcast_S1x1x4_S16384x16x4_0_1_2 (wrapped (res_main_v25 V0) bcast_S_S1x1x4 262144#32))⟩]
    concatenates_S16384x16x4x1_S16384x16x4x1_S16384x16x4x2_d3

theorem cells_row (r : Fin 16384) (l : Fin 16) (v : Fin 4) (a b : ℝ) (h0 : 0 ≤ a) (h1 : a < 2 ^ 31) (ha : sc (pts V0 (ix2 r 0)) l = (a : EReal))
    (h0' : 0 ≤ b) (h1' : b < 2 ^ 31) (hb : sc (pts V0 (ix2 r 1)) l = (b : EReal)) :
    (cells V0 (ix4 r l v 0)).toInt.toNat = (par (part ⌊a⌋₊ 0 v + part ⌊b⌋₊ 1 v)).val := by
  have e : cells V0 (ix4 r l v 0) = wrapped (res_main_v23 V0) bcast_S_S16384x16x4 16#32 (ix3 r l v) := by
    unfold cells
    generalize wrapped (res_main_v23 V0) bcast_S_S16384x16x4 16#32 = x
    generalize wrapped (res_main_v25 V0) bcast_S_S1x1x4 262144#32 = y
    pointwise
  have e' := v23_apply V0 r l v a b h0 h1 ha h0' h1' hb
  rw [e]
  show (Scalar.select (IntOp.cmpi .slt (res_main_v23 V0 (ix3 r l v)) 0#32) (IntOp.addi (res_main_v23 V0 (ix3 r l v)) 16#32) (res_main_v23 V0 (ix3 r l v))).toInt.toNat = _
  rw [e']
  exact row_eq _ (par _).isLt _
theorem cells_col (r : Fin 16384) (l : Fin 16) (v : Fin 4) : (cells V0 (ix4 r l v 1)).toInt.toNat = v.val := by
  have e : cells V0 (ix4 r l v 1) = wrapped (res_main_v25 V0) bcast_S_S1x1x4 262144#32 (ix3 0 0 v) := by
    unfold cells
    generalize wrapped (res_main_v23 V0) bcast_S_S16384x16x4 16#32 = x
    generalize wrapped (res_main_v25 V0) bcast_S_S1x1x4 262144#32 = y
    pointwise
  have e' := v25_apply V0 v
  rw [e]
  show (Scalar.select (IntOp.cmpi .slt (res_main_v25 V0 (ix3 0 0 v)) 0#32) (IntOp.addi (res_main_v25 V0 (ix3 0 0 v)) 262144#32) (res_main_v25 V0 (ix3 0 0 v))).toInt.toNat = _
  rw [e']
  exact col_eq v

/-- A product of extended reals. -/
abbrev times (x y : EReal) : EReal := x * y
/-- The weight of vertex `v`. -/
def weight (r : Fin 16384) (l : Fin 16) (v : Fin 4) : EReal :=
  if h : v.val < 1 then times (res_main_v45 V0 (ix2 r l)) (res_main_v49 V0 (ix2 r l))
  else if h : v.val - 1 < 1 then times (res_main_v45 V0 (ix2 r l)) (res_main_v47 V0 (ix2 r l))
  else if h : v.val - 1 - 1 < 1 then times (res_main_v43 V0 (ix2 r l)) (res_main_v49 V0 (ix2 r l))
  else times (res_main_v43 V0 (ix2 r l)) (res_main_v47 V0 (ix2 r l))

/-- A point's weighted lookups. -/
theorem feature_eq (r : Fin 16384) (hr : Good V0 r) (k : Fin 32) :
    ∑ v : Fin 4, weight V0 r ⟨k.val / 2, by omega⟩ v * Host.gather lookup (tbl V0) (cells V0) (ix4 r ⟨k.val / 2, by omega⟩ v ⟨k.val % 2, Nat.mod_lt _ (by norm_num)⟩)
      = rf V0 r k := by
  have hk : k.val / 2 < 16 := by omega
  obtain ⟨a, h0, h1, ha⟩ := hr 0 ⟨k.val / 2, hk⟩
  obtain ⟨b, h0', h1', hb⟩ := hr 1 ⟨k.val / 2, hk⟩
  have hv : ∀ v : Fin 4, Host.gather lookup (tbl V0) (cells V0) (ix4 r ⟨k.val / 2, hk⟩ v ⟨k.val % 2, Nat.mod_lt _ (by norm_num)⟩)
      = tab (tbl V0) k (par (part ⌊a⌋₊ 0 v + part ⌊b⌋₊ 1 v)) v := fun v =>
    lookup_apply (tbl V0) (cells V0) r ⟨k.val / 2, hk⟩ v ⟨k.val % 2, Nat.mod_lt _ (by norm_num)⟩ ⟨(par (part ⌊a⌋₊ 0 v + part ⌊b⌋₊ 1 v)).val, by omega⟩ ⟨v.val, by omega⟩
      (cells_row V0 r _ v a b h0 h1 ha h0' h1' hb) (cells_col V0 r _ v)
  rw [Fin.sum_univ_four]
  rw [hv 0, hv 1, hv 2, hv 3]
  have e43 := v43_apply V0 r ⟨k.val / 2, hk⟩
  have e45 := v45_apply V0 r ⟨k.val / 2, hk⟩
  have e47 := v47_apply V0 r ⟨k.val / 2, hk⟩
  have e49 := v49_apply V0 r ⟨k.val / 2, hk⟩
  have w0 : weight V0 r ⟨k.val / 2, hk⟩ 0 = (1 - fr a) * (1 - fr b) := by rw [← ha, ← hb, ← e45, ← e49]; rfl
  have w1 : weight V0 r ⟨k.val / 2, hk⟩ 1 = (1 - fr a) * fr b := by rw [← ha, ← hb, ← e45, ← e47]; rfl
  have w2 : weight V0 r ⟨k.val / 2, hk⟩ 2 = fr a * (1 - fr b) := by rw [← ha, ← hb, ← e43, ← e49]; rfl
  have w3 : weight V0 r ⟨k.val / 2, hk⟩ 3 = fr a * fr b := by rw [← ha, ← hb, ← e43, ← e47]; rfl
  have sa : scaled (pts V0 (ix2 r 0)) k = (a : EReal) := ha
  have sb : scaled (pts V0 (ix2 r 1)) k = (b : EReal) := hb
  have p0 : par (part ⌊a⌋₊ 0 0 + part ⌊b⌋₊ 1 0) = 0 := by
    rw [show part ⌊a⌋₊ 0 0 = 0 from rfl, show part ⌊b⌋₊ 1 0 = 0 from rfl]; rfl
  have p1 : par (part ⌊a⌋₊ 0 1 + part ⌊b⌋₊ 1 1) = par ⌊b⌋₊ := by
    rw [show part ⌊a⌋₊ 0 1 = 0 from rfl, show part ⌊b⌋₊ 1 1 = ⌊b⌋₊ from rfl, Nat.zero_add]
  have p2 : par (part ⌊a⌋₊ 0 2 + part ⌊b⌋₊ 1 2) = par ⌊a⌋₊ := by
    rw [show part ⌊a⌋₊ 0 2 = ⌊a⌋₊ from rfl, show part ⌊b⌋₊ 1 2 = 0 from rfl, Nat.add_zero]
  have p3 : par (part ⌊a⌋₊ 0 3 + part ⌊b⌋₊ 1 3) = par (⌊a⌋₊ + ⌊b⌋₊) := by
    rw [show part ⌊a⌋₊ 0 3 = ⌊a⌋₊ from rfl, show part ⌊b⌋₊ 1 3 = ⌊b⌋₊ from rfl]
  rw [w0, w1, w2, w3, p0, p1, p2, p3]
  unfold rf
  rw [sa, sb]
  rfl

theorem v68_apply (r : Fin 16384) (hr : Good V0 r) (i : Fin 64) :
    (res_main_v68 V0 (ix2 r i) : EReal) = dense (fun a b => p2 V0 (ix2 a b)) (fun k => p3 V0 (ix1 k)) (rf V0 r) i := by
  unfold res_main_v68
  clean_types
  pointwise
  unfold dense
  exact congrArg (· + p3 V0 (ix1 i)) (Finset.sum_congr rfl fun k _ => congrArg (· * p2 V0 (ix2 i k)) (feature_eq V0 r hr k))

theorem v78_apply (r : Fin 16384) (i : Fin 64) :
    (res_main_v78 V0 (ix2 r i) : EReal) = dense (fun a b => p4 V0 (ix2 a b)) (fun k => p5 V0 (ix1 k)) (fun k => lrelu (res_main_v68 V0 (ix2 r k))) i := by
  unfold res_main_v78
  clean_types
  pointwise
  rfl
theorem v88_apply (r : Fin 16384) (i : Fin 64) :
    (res_main_v88 V0 (ix2 r i) : EReal) = dense (fun a b => p6 V0 (ix2 a b)) (fun k => p7 V0 (ix1 k)) (fun k => lrelu (res_main_v78 V0 (ix2 r k))) i := by
  unfold res_main_v88
  clean_types
  pointwise
  rfl

/-- The reference's result. -/
abbrev result : S16384x3.Idx → EReal :=
  maximumf (addf (Host.dotGeneral (F := Ideal) (φ₁ := .f32) (φ₂ := .f32) dot_S16384x64_S64x3_S16384x3_1_0_0_1_n_n none (select (cmpf .oge (res_main_v88 V0) (broadcastInDim S16384x64 ![] bcast_S_S16384x64 (constant S_ .f32 0x00000000#32))) (res_main_v88 V0) (mulf (broadcastInDim S16384x64 ![] bcast_S_S16384x64 (constant S_ .f32 0x3C23D70A#32)) (res_main_v88 V0))) (transpose S64x3 [1, 0] (p8 V0) transposes_S3x64_S64x3_1_0)) (broadcastInDim S16384x3 ![0, 1] bcast_S1x3_S16384x3_0_1 (broadcastInDim S1x3 ![1] bcast_S3_S1x3_1 (p9 V0)))) (broadcastInDim S16384x3 ![] bcast_S_S16384x3 (constant S_ .f32 0x00000000#32))

theorem result_apply (r : Fin 16384) (hr : Good V0 r) (i : Fin 3) :
    result V0 (ix2 r i) = net (fun a b => p2 V0 (ix2 a b)) (fun k => p3 V0 (ix1 k)) (fun a b => p4 V0 (ix2 a b)) (fun k => p5 V0 (ix1 k))
      (fun a b => p6 V0 (ix2 a b)) (fun k => p7 V0 (ix1 k)) (fun a b => p8 V0 (ix2 a b)) (fun k => p9 V0 (ix1 k)) (rf V0 r) i := by
  have e : result V0 (ix2 r i) = max (dense (fun a b => p8 V0 (ix2 a b)) (fun k => p9 V0 (ix1 k)) (fun k => lrelu (res_main_v88 V0 (ix2 r k))) i) 0 := by
    unfold result
    clean_types
    pointwise
    rfl
  have f3 : (fun k => lrelu (res_main_v88 V0 (ix2 r k))) = fun k => lrelu (dense (fun a b => p6 V0 (ix2 a b)) (fun k => p7 V0 (ix1 k)) (fun k => lrelu (res_main_v78 V0 (ix2 r k))) k) :=
    funext fun k => congrArg lrelu (v88_apply V0 r k)
  have f2 : (fun k => lrelu (res_main_v78 V0 (ix2 r k))) = fun k => lrelu (dense (fun a b => p4 V0 (ix2 a b)) (fun k => p5 V0 (ix1 k)) (fun k => lrelu (res_main_v68 V0 (ix2 r k))) k) :=
    funext fun k => congrArg lrelu (v78_apply V0 r k)
  have f1 : (fun k => lrelu (res_main_v68 V0 (ix2 r k))) = fun k => lrelu (dense (fun a b => p2 V0 (ix2 a b)) (fun k => p3 V0 (ix1 k)) (rf V0 r) k) :=
    funext fun k => congrArg lrelu (v68_apply V0 r hr k)
  rw [e, f3, f2, f1]
  rfl

end Cert.Proof.Ref

end
-- ==== Proof.Domain.lean ====
/-
  What the precondition says: the coordinates are real, not negative and below `2 ^ 25`, and the table's entries at level zero,
  vertices one to three, are finite.
-/
module

public import proofs.«01_k».proof.Pre_domain
public import proofs.«01_k».proof.Proof.Feature
public import Idealize.ShloMosaic.Lib.ReduceAll
public import Idealize.ShloMosaic.Lib.Pointwise
public import Idealize.ShloMosaic.Lib.Decide

@[expose] public section

noncomputable section

namespace Cert.Proof.Domain

open Cert.Pre_domain
open Idealize.ShloMosaic Cert.Proof.Words Cert.Proof.Feature

/-- The shapes of the precondition's operations fit. -/
theorem facts : Cert.Pre_domain.Facts where
  bcast_S_S16384x2 := by decide
  reducesTo_S16384x2_S_d0_1 := by decide
  h_S_ := by decide
  slices_S16x262144x2_S1x3x2_0_1_0 := by decide
  shapeCasts_S1x3x2_S3x2 := by decide
  bcast_S_S3x2 := by decide
  reducesTo_S3x2_S_d0_1 := by decide

theorem of_oge (x y : EReal) (h : Ideal.cmp .oge x y = 1#1) : y ≤ x := by
  by_contra n
  simp [Ideal.cmp, n] at h
theorem of_olt (x y : EReal) (h : Ideal.cmp .olt x y = 1#1) : x < y := by
  by_contra n
  simp [Ideal.cmp, n] at h
theorem of_ogt (x y : EReal) (h : Ideal.cmp .ogt x y = 1#1) : y < x := by
  by_contra n
  simp [Ideal.cmp, n] at h

instance : Subsingleton S_.Idx := ⟨fun _ _ => funext fun k => k.elim0⟩

/-- The array of the entries compared, at vertex `v + 1`. -/
theorem near_apply (T : S16x262144x2.Idx → EReal) (h : S16x262144x2.Slices ![0, 1, 0] S1x3x2) (h' : S1x3x2.ShapeCasts S3x2) (v : Fin 3) (f : Fin 2) :
    (shapeCast S3x2 (extractStridedSlice S1x3x2 ![0, 1, 0] T h) h' : S3x2.Idx → EReal) (ix2 v f) = T (ix3 (0 : Fin 16) (⟨1 + v.val, by omega⟩ : Fin 262144) f) := by
  pointwise

/-- What the precondition says of the points and of the table. -/
theorem domain_eq (X : S16384x2.Idx → EReal) (T : S16x262144x2.Idx → EReal) (w1 : S64x32.Idx → EReal) (b1 : S64.Idx → EReal) (w2 : S64x64.Idx → EReal)
    (b2 : S64.Idx → EReal) (w3 : S64x64.Idx → EReal) (b3 : S64.Idx → EReal) (w4 : S3x64.Idx → EReal) (b4 : S3.Idx → EReal)
    (h : @Cert.Pre_domain.fn facts Ideal _ X T w1 b1 w2 b2 w3 b3 w4 b4 = fun _ => 1#1) :
    (∀ r c, 0 ≤ X (ix2 r c) ∧ X (ix2 r c) < ((2 ^ 25 : ℝ) : EReal))
      ∧ ∀ (v : Fin 3) (f : Fin 2), ⊥ < T (ix3 (0 : Fin 16) (⟨1 + v.val, by omega⟩ : Fin 262144) f) ∧ T (ix3 (0 : Fin 16) (⟨1 + v.val, by omega⟩ : Fin 262144) f) < ⊤ := by
  obtain ⟨hx, ht⟩ := IntOp.andi_eq_one.1 (congrFun h fun k => k.elim0)
  refine ⟨fun r c => ?_, fun v f => ?_⟩
  · obtain ⟨e, e'⟩ := IntOp.andi_eq_one.1 (Host.reduce_andi_all _ _ _ _ _ hx (ix2 r c))
    have e := of_oge _ _ e
    have e' := of_olt _ _ e'
    exact ⟨(le_of_eq Ideal.ofBits_zero_f32.symm).trans e, lt_of_lt_of_eq e' ofBits_bound⟩
  · obtain ⟨e, e'⟩ := IntOp.andi_eq_one.1 (Host.reduce_andi_all _ _ _ _ _ ht (ix2 v f))
    have e := of_ogt _ _ e
    have e' := of_olt _ _ e'
    rw [← near_apply T facts.slices_S16x262144x2_S1x3x2_0_1_0 facts.shapeCasts_S1x3x2_S3x2 v f]
    exact ⟨lt_of_eq_of_lt ofBits_bot.symm e, lt_of_lt_of_eq e' ofBits_top⟩

/-- A coordinate in the domain, scaled by a grid size, is real, not negative and a 32-bit integer when truncated. -/
theorem scaled_real (x : EReal) (h : 0 ≤ x) (h' : x < ((2 ^ 25 : ℝ) : EReal)) (n : ℕ) (hn : n ≤ 64) : ∃ a : ℝ, 0 ≤ a ∧ a < 2 ^ 31 ∧ x * ((n : ℝ) : EReal) = (a : EReal) := by
  lift x to ℝ using ⟨ne_top_of_lt h', ne_bot_of_le_ne_bot (by simp) h⟩
  have h := EReal.coe_nonneg.1 h
  have h' := EReal.coe_lt_coe_iff.1 h'
  have hn' : (n : ℝ) ≤ 64 := by exact_mod_cast hn
  refine ⟨x * n, mul_nonneg h (Nat.cast_nonneg n), ?_, (EReal.coe_mul x n).symm⟩
  calc x * n ≤ x * 64 := mul_le_mul_of_nonneg_left hn' h
    _ < 2 ^ 25 * 64 := by linarith
    _ = 2 ^ 31 := by norm_num

end Cert.Proof.Domain

end
-- ==== Proof.Equation.lean ====
/-
  The kernel's result over extended reals is the reference's, point by point.
-/
module

public import proofs.«01_k».proof.Defs
public import proofs.«01_k».proof.Proof.Windows
public import proofs.«01_k».proof.Proof.RefValue
public import proofs.«01_k».proof.Proof.Domain

@[expose] public section

noncomputable section

namespace Cert.Proof

open Idealize.ShloMosaic Idealize.ShloMosaic.TcCoe Idealize.ShloMosaic.StableHlo Idealize.SL.Sem
open Cert.Proof.Words Cert.Proof.Feature Cert.Proof.Net

section

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The reference's points, table, weights and biases are the kernel's. -/
structure Same : Prop where
  x : Ref.pts V0 = Ring8.a0 m c
  t : Ref.tbl V0 = Ring8.a1 m c
  w1 : Ref.p2 V0 = Ring8.a2 m c
  b1 : Ref.p3 V0 = Ring8.a3 m c
  w2 : Ref.p4 V0 = Ring8.a4 m c
  b2 : Ref.p5 V0 = Ring8.a5 m c
  w3 : Ref.p6 V0 = Ring8.a6 m c
  b3 : Ref.p7 V0 = Ring8.a7 m c
  w4 : Ref.p8 V0 = Ring8.a8 m c
  b4 : Ref.p9 V0 = Ring8.a9 m c

variable {m c V0}

/-- A point in the domain is good. -/
theorem good (hx : ∀ r k, 0 ≤ Ref.pts V0 (ix2 r k) ∧ Ref.pts V0 (ix2 r k) < ((2 ^ 25 : ℝ) : EReal)) (r : Fin 16384) : Ref.Good V0 r := fun k l =>
  Domain.scaled_real _ (hx r k).1 (hx r k).2 _ (size_le l)

/-- The features agree on the domain. -/
theorem features_eq (hs : Same m c V0) (hx : ∀ r k, 0 ≤ Ref.pts V0 (ix2 r k) ∧ Ref.pts V0 (ix2 r k) < ((2 ^ 25 : ℝ) : EReal))
    (ht : ∀ (v : Fin 3) (f : Fin 2), ⊥ < Ref.tbl V0 (ix3 (0 : Fin 16) (⟨1 + v.val, by omega⟩ : Fin 262144) f) ∧ Ref.tbl V0 (ix3 (0 : Fin 16) (⟨1 + v.val, by omega⟩ : Fin 262144) f) < ⊤)
    (r : Fin 16384) (l : Fin 32) :
    kfeat (tab (Ring8.a1 m c) l) (scaled (Ring8.a0 m c (ix2 r 0)) l) (scaled (Ring8.a0 m c (ix2 r 1)) l) = Ref.rf V0 r l := by
  have hl : l.val / 2 < 16 := by omega
  obtain ⟨a, ha, -, ea⟩ := good hx r 0 ⟨l.val / 2, hl⟩
  obtain ⟨b, hb, -, eb⟩ := good hx r 1 ⟨l.val / 2, hl⟩
  have ea : scaled (Ref.pts V0 (ix2 r 0)) l = (a : EReal) := ea
  have eb : scaled (Ref.pts V0 (ix2 r 1)) l = (b : EReal) := eb
  unfold Ref.rf
  rw [← hs.t, ← hs.x, ea, eb]
  refine kfeat_eq_rfeat _ a b ha hb fun v hv => ?_
  have hv' : v.val ≠ 0 := fun e => hv (Fin.ext e)
  obtain ⟨h, h'⟩ := ht ⟨v.val - 1, by omega⟩ ⟨l.val % 2, Nat.mod_lt _ (by norm_num)⟩
  have e : tab (Ref.tbl V0) l 0 v = Ref.tbl V0 (ix3 (0 : Fin 16) (⟨1 + (v.val - 1), by omega⟩ : Fin 262144) ⟨l.val % 2, Nat.mod_lt _ (by norm_num)⟩) := by
    unfold tab
    congr 2
    exact Fin.ext (by show v.val = 1 + (v.val - 1); omega)
  rw [e]
  exact ⟨h'.ne, h.ne'⟩

/-- The result arrays agree on the domain. -/
theorem result_eq (hs : Same m c V0) (hx : ∀ r k, 0 ≤ Ref.pts V0 (ix2 r k) ∧ Ref.pts V0 (ix2 r k) < ((2 ^ 25 : ℝ) : EReal))
    (ht : ∀ (v : Fin 3) (f : Fin 2), ⊥ < Ref.tbl V0 (ix3 (0 : Fin 16) (⟨1 + v.val, by omega⟩ : Fin 262144) f) ∧ Ref.tbl V0 (ix3 (0 : Fin 16) (⟨1 + v.val, by omega⟩ : Fin 262144) f) < ⊤) :
    (Ref.result V0 : Cert.ReferenceIdeal.S16384x3.Idx → EReal) = Ring8.outArr c (Cert.KernelIdeal.Gen.V m c Cert.KernelIdeal.main_arg0) (Ring8.vals m c) := by
  funext i
  obtain ⟨r, k, rfl⟩ : ∃ (r : Fin 16384) (k : Fin 3), i = ix2 r k := ⟨i 0, i 1, by funext a; match a with | 0 => rfl | 1 => rfl⟩
  refine (Ref.result_apply V0 r (good hx r) k).trans ?_
  refine Eq.trans ?_ (Ring8.out_apply m c r k).symm
  rw [funext fun l => (features_eq hs hx ht r l).symm, hs.w1, hs.b1, hs.w2, hs.b2, hs.w3, hs.b3, hs.w4, hs.b4]

end

/-- The equation of the results. -/
theorem algebraic : Cert.algebraic_KernelIdeal_ReferenceIdeal_pre_domain (hKernelIdeal := Cert.KernelIdeal.Gen.facts)
    (hReferenceIdeal := Cert.ReferenceIdeal.Gen.facts) (hPre_domain := Domain.facts) := by
  intro m g m' g' hpre hargs
  refine ⟨fun c => Ring8.outArr c (Cert.KernelIdeal.Gen.V m c Cert.KernelIdeal.main_arg0) (Ring8.vals m c),
    (θ_run _ _ _).mono (fun _ h => h.1) (Ring8.run_main m g),
    (θ_run _ _ _).mono (fun r h c => ⟨(h c).1.trans ?_, (h c).2⟩) (Cert.ReferenceIdeal.Value.run (F := Ideal) m' g')⟩
  obtain ⟨e0, e1, e2, e3, e4, e5, e6, e7, e8, e9⟩ := hargs c
  have hs : Same m c (launchContents m' c) := ⟨e0, e1, e2, e3, e4, e5, e6, e7, e8, e9⟩
  obtain ⟨hx, ht⟩ := Domain.domain_eq _ _ _ _ _ _ _ _ _ _ (hpre c)
  rw [← e0] at hx
  rw [← e1] at ht
  exact result_eq hs hx ht

end Cert.Proof

end
-- ==== Proof.lean ====
/-
  The certificate's claim, assembled from the frames of the three programs and the equation of the results.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Transfer
public import proofs.«01_k».proof.Proof.RefRun
public import proofs.«01_k».proof.Proof.Equation

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Domain.facts, frame_kernel, frame_ideal,
    fun m g _ => frame_ideal m g trivial, frame_reference, fun m g _ => frame_reference m g trivial, trivial, algebraic⟩

end Cert.Proof

end
